-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S4096x8192 : Shape := ⟨2, ![4096, 8192]⟩
abbrev S2x1024x1024 : Shape := ⟨3, ![2, 1024, 1024]⟩
abbrev S1024x1024 : Shape := ⟨2, ![1024, 1024]⟩
abbrev S2 : Shape := ⟨1, ![2]⟩
abbrev S4 : Shape := ⟨1, ![4]⟩
abbrev S_ : Shape := ⟨0, ![]⟩
abbrev S1 : Shape := ⟨1, ![1]⟩
abbrev S1x1024x1024 : Shape := ⟨3, ![1, 1024, 1024]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x8192, .f32⟩
  | .local _ .vmem, ⟨0, _⟩ => ⟨S2x1024x1024, .f32⟩
  | .local _ .vmem, ⟨1, _⟩ => ⟨S2x1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v19 : BitVec 32 := Scalar.muli v2 c1024_i32
  let c0_i32_16 : BitVec 32 := 0#32
  ![v19.toNat, 0]
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_43 : BitVec 32 := 1#32
  let v44 : BitVec 32 := Scalar.muli v4 c1_i32_43
  let v45 : BitVec 32 := Scalar.addi c0_i32_44 v44
  v45.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_53 : BitVec 32 := 1#32
  let v54 : BitVec 32 := Scalar.muli v7 c1_i32_53
  let v55 : BitVec 32 := Scalar.addi c0_i32_54 v54
  v55.toNat
def k0_off2 (d0 : Dev nD) (c0_i32_59 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.subi v2 c0_i32_59
  let c1_i32_60 : BitVec 32 := 1#32
  let v65 : BitVec 32 := Scalar.subi v64 c1_i32_60
  let c8_i32 : BitVec 32 := 8#32
  let v66 : BitVec 32 := Scalar.addi v65 c8_i32
  let c4_i32_61 : BitVec 32 := 4#32
  let v67 : BitVec 32 := Scalar.remsi v66 c4_i32_61
  let c1024_i32_65 : BitVec 32 := 1024#32
  let v71 : BitVec 32 := Scalar.muli v67 c1024_i32_65
  let c0_i32_67 : BitVec 32 := 0#32
  ![v71.toNat, 0]
def k0_off3 (d0 : Dev nD) (c0_i32_62 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v68 : BitVec 32 := Scalar.addi v2 c0_i32_62
  let c1_i32_63 : BitVec 32 := 1#32
  let v69 : BitVec 32 := Scalar.addi v68 c1_i32_63
  let c4_i32_64 : BitVec 32 := 4#32
  let v70 : BitVec 32 := Scalar.remsi v69 c4_i32_64
  let c1024_i32_68 : BitVec 32 := 1024#32
  let v75 : BitVec 32 := Scalar.muli v70 c1024_i32_68
  let c0_i32_69 : BitVec 32 := 0#32
  ![v75.toNat, 0]
def k0_dev5 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_142 : BitVec 32 := 1#32
  let v139 : BitVec 32 := Scalar.muli v7 c1_i32_142
  let v140 : BitVec 32 := Scalar.addi c0_i32_143 v139
  v140.toNat
def k0_dev6 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_145 : BitVec 32 := 1#32
  let v141 : BitVec 32 := Scalar.muli v4 c1_i32_145
  let v142 : BitVec 32 := Scalar.addi c0_i32_146 v141
  v142.toNat
def k0_dev7 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_153 : BitVec 32 := 1#32
  let v143 : BitVec 32 := Scalar.muli v4 c1_i32_153
  let v144 : BitVec 32 := Scalar.addi c0_i32_154 v143
  v144.toNat
def k0_dev8 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_163 : BitVec 32 := 1#32
  let v153 : BitVec 32 := Scalar.muli v7 c1_i32_163
  let v154 : BitVec 32 := Scalar.addi c0_i32_164 v153
  v154.toNat
def k0_dev9 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_255 : BitVec 32 := 1#32
  let v238 : BitVec 32 := Scalar.muli v7 c1_i32_255
  let v239 : BitVec 32 := Scalar.addi c0_i32_256 v238
  v239.toNat
def k0_dev10 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_258 : BitVec 32 := 1#32
  let v240 : BitVec 32 := Scalar.muli v4 c1_i32_258
  let v241 : BitVec 32 := Scalar.addi c0_i32_259 v240
  v241.toNat
def k0_dev11 (d0 : Dev nD) : Nat :=
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_266 : BitVec 32 := 1#32
  let v242 : BitVec 32 := Scalar.muli v4 c1_i32_266
  let v243 : BitVec 32 := Scalar.addi c0_i32_267 v242
  v243.toNat
def k0_dev12 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_276 : BitVec 32 := 1#32
  let v252 : BitVec 32 := Scalar.muli v7 c1_i32_276
  let v253 : BitVec 32 := Scalar.addi c0_i32_277 v252
  v253.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_367 : BitVec 32 := 1#32
  let v337 : BitVec 32 := Scalar.addi v2 c1_i32_367
  let c4_i32_368 : BitVec 32 := 4#32
  let v338 : BitVec 32 := Scalar.remsi v337 c4_i32_368
  let c1024_i32_372 : BitVec 32 := 1024#32
  let v342 : BitVec 32 := Scalar.muli v338 c1024_i32_372
  let c0_i32_375 : BitVec 32 := 0#32
  ![v342.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_369 : BitVec 32 := 4#32
  let v339 : BitVec 32 := Scalar.addi v2 c4_i32_369
  let c1_i32_370 : BitVec 32 := 1#32
  let v340 : BitVec 32 := Scalar.subi v339 c1_i32_370
  let c4_i32_371 : BitVec 32 := 4#32
  let v341 : BitVec 32 := Scalar.remsi v340 c4_i32_371
  let c1024_i32_378 : BitVec 32 := 1024#32
  let v348 : BitVec 32 := Scalar.muli v341 c1024_i32_378
  let c4096_i32_381 : BitVec 32 := 4096#32
  ![v348.toNat, 4096]
def k0_dev13 (d0 : Dev nD) : Nat :=
  let c0_i32_396 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_395 : BitVec 32 := 1#32
  let v364 : BitVec 32 := Scalar.muli v7 c1_i32_395
  let v365 : BitVec 32 := Scalar.addi c0_i32_396 v364
  v365.toNat
def k0_dev14 (d0 : Dev nD) : Nat :=
  let c0_i32_399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_398 : BitVec 32 := 1#32
  let v366 : BitVec 32 := Scalar.muli v4 c1_i32_398
  let v367 : BitVec 32 := Scalar.addi c0_i32_399 v366
  v367.toNat
def k0_dev15 (d0 : Dev nD) : Nat :=
  let c0_i32_407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_406 : BitVec 32 := 1#32
  let v368 : BitVec 32 := Scalar.muli v4 c1_i32_406
  let v369 : BitVec 32 := Scalar.addi c0_i32_407 v368
  v369.toNat
def k0_dev16 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_416 : BitVec 32 := 1#32
  let v378 : BitVec 32 := Scalar.muli v7 c1_i32_416
  let v379 : BitVec 32 := Scalar.addi c0_i32_417 v378
  v379.toNat
def k0_off6 (d0 : Dev nD) (c0_i32_460 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v416 : BitVec 32 := Scalar.subi v2 c0_i32_460
  let c8_i32_461 : BitVec 32 := 8#32
  let v417 : BitVec 32 := Scalar.addi v416 c8_i32_461
  let c4_i32_462 : BitVec 32 := 4#32
  let v418 : BitVec 32 := Scalar.remsi v417 c4_i32_462
  let c1024_i32_465 : BitVec 32 := 1024#32
  let v421 : BitVec 32 := Scalar.muli v418 c1024_i32_465
  let c0_i32_468 : BitVec 32 := 0#32
  ![v421.toNat, 0]
def k0_off7 (d0 : Dev nD) (c0_i32_463 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v419 : BitVec 32 := Scalar.addi v2 c0_i32_463
  let c4_i32_464 : BitVec 32 := 4#32
  let v420 : BitVec 32 := Scalar.remsi v419 c4_i32_464
  let c1024_i32_471 : BitVec 32 := 1024#32
  let v427 : BitVec 32 := Scalar.muli v420 c1024_i32_471
  let c4096_i32_474 : BitVec 32 := 4096#32
  ![v427.toNat, 4096]
def k0_dev17 (d0 : Dev nD) : Nat :=
  let c0_i32_489 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_488 : BitVec 32 := 1#32
  let v443 : BitVec 32 := Scalar.muli v7 c1_i32_488
  let v444 : BitVec 32 := Scalar.addi c0_i32_489 v443
  v444.toNat
def k0_dev18 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_491 : BitVec 32 := 1#32
  let v445 : BitVec 32 := Scalar.muli v4 c1_i32_491
  let v446 : BitVec 32 := Scalar.addi c0_i32_492 v445
  v446.toNat
def k0_dev19 (d0 : Dev nD) : Nat :=
  let c0_i32_500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_499 : BitVec 32 := 1#32
  let v447 : BitVec 32 := Scalar.muli v4 c1_i32_499
  let v448 : BitVec 32 := Scalar.addi c0_i32_500 v447
  v448.toNat
def k0_dev20 (d0 : Dev nD) : Nat :=
  let c0_i32_510 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_509 : BitVec 32 := 1#32
  let v457 : BitVec 32 := Scalar.muli v7 c1_i32_509
  let v458 : BitVec 32 := Scalar.addi c0_i32_510 v457
  v458.toNat
def k0_dev21 (d0 : Dev nD) : Nat :=
  let c0_i32_582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_581 : BitVec 32 := 1#32
  let v522 : BitVec 32 := Scalar.muli v7 c1_i32_581
  let v523 : BitVec 32 := Scalar.addi c0_i32_582 v522
  v523.toNat
def k0_dev22 (d0 : Dev nD) : Nat :=
  let c0_i32_585 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_584 : BitVec 32 := 1#32
  let v524 : BitVec 32 := Scalar.muli v4 c1_i32_584
  let v525 : BitVec 32 := Scalar.addi c0_i32_585 v524
  v525.toNat
def k0_dev23 (d0 : Dev nD) : Nat :=
  let c0_i32_593 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_592 : BitVec 32 := 1#32
  let v526 : BitVec 32 := Scalar.muli v4 c1_i32_592
  let v527 : BitVec 32 := Scalar.addi c0_i32_593 v526
  v527.toNat
def k0_dev24 (d0 : Dev nD) : Nat :=
  let c0_i32_603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_602 : BitVec 32 := 1#32
  let v536 : BitVec 32 := Scalar.muli v7 c1_i32_602
  let v537 : BitVec 32 := Scalar.addi c0_i32_603 v536
  v537.toNat
def k0_dev25 (d0 : Dev nD) : Nat :=
  let c0_i32_707 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_706 : BitVec 32 := 1#32
  let v632 : BitVec 32 := Scalar.muli v7 c1_i32_706
  let v633 : BitVec 32 := Scalar.addi c0_i32_707 v632
  v633.toNat
def k0_dev26 (d0 : Dev nD) : Nat :=
  let c0_i32_710 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_709 : BitVec 32 := 1#32
  let v634 : BitVec 32 := Scalar.muli v4 c1_i32_709
  let v635 : BitVec 32 := Scalar.addi c0_i32_710 v634
  v635.toNat
def k0_dev27 (d0 : Dev nD) : Nat :=
  let c0_i32_718 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_717 : BitVec 32 := 1#32
  let v636 : BitVec 32 := Scalar.muli v4 c1_i32_717
  let v637 : BitVec 32 := Scalar.addi c0_i32_718 v636
  v637.toNat
def k0_dev28 (d0 : Dev nD) : Nat :=
  let c0_i32_728 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_727 : BitVec 32 := 1#32
  let v646 : BitVec 32 := Scalar.muli v7 c1_i32_727
  let v647 : BitVec 32 := Scalar.addi c0_i32_728 v646
  v647.toNat
def k0_dev29 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_819 : BitVec 32 := 1#32
  let v731 : BitVec 32 := Scalar.muli v7 c1_i32_819
  let v732 : BitVec 32 := Scalar.addi c0_i32_820 v731
  v732.toNat
def k0_dev30 (d0 : Dev nD) : Nat :=
  let c0_i32_823 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_822 : BitVec 32 := 1#32
  let v733 : BitVec 32 := Scalar.muli v4 c1_i32_822
  let v734 : BitVec 32 := Scalar.addi c0_i32_823 v733
  v734.toNat
def k0_dev31 (d0 : Dev nD) : Nat :=
  let c0_i32_831 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_830 : BitVec 32 := 1#32
  let v735 : BitVec 32 := Scalar.muli v4 c1_i32_830
  let v736 : BitVec 32 := Scalar.addi c0_i32_831 v735
  v736.toNat
def k0_dev32 (d0 : Dev nD) : Nat :=
  let c0_i32_841 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_840 : BitVec 32 := 1#32
  let v745 : BitVec 32 := Scalar.muli v7 c1_i32_840
  let v746 : BitVec 32 := Scalar.addi c0_i32_841 v745
  v746.toNat
def k0_dev33 (d0 : Dev nD) : Nat :=
  let c0_i32_933 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_932 : BitVec 32 := 1#32
  let v830 : BitVec 32 := Scalar.muli v7 c1_i32_932
  let v831 : BitVec 32 := Scalar.addi c0_i32_933 v830
  v831.toNat
def k0_dev34 (d0 : Dev nD) : Nat :=
  let c0_i32_936 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_935 : BitVec 32 := 1#32
  let v832 : BitVec 32 := Scalar.muli v4 c1_i32_935
  let v833 : BitVec 32 := Scalar.addi c0_i32_936 v832
  v833.toNat
def k0_dev35 (d0 : Dev nD) : Nat :=
  let c0_i32_944 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_943 : BitVec 32 := 1#32
  let v834 : BitVec 32 := Scalar.muli v4 c1_i32_943
  let v835 : BitVec 32 := Scalar.addi c0_i32_944 v834
  v835.toNat
def k0_dev36 (d0 : Dev nD) : Nat :=
  let c0_i32_954 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_953 : BitVec 32 := 1#32
  let v844 : BitVec 32 := Scalar.muli v7 c1_i32_953
  let v845 : BitVec 32 := Scalar.addi c0_i32_954 v844
  v845.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1044 : BitVec 32 := 1#32
  let v929 : BitVec 32 := Scalar.addi v2 c1_i32_1044
  let c4_i32_1045 : BitVec 32 := 4#32
  let v930 : BitVec 32 := Scalar.remsi v929 c4_i32_1045
  let c1024_i32_1049 : BitVec 32 := 1024#32
  let v934 : BitVec 32 := Scalar.muli v930 c1024_i32_1049
  let c1024_i32_1052 : BitVec 32 := 1024#32
  ![v934.toNat, 1024]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1046 : BitVec 32 := 4#32
  let v931 : BitVec 32 := Scalar.addi v2 c4_i32_1046
  let c1_i32_1047 : BitVec 32 := 1#32
  let v932 : BitVec 32 := Scalar.subi v931 c1_i32_1047
  let c4_i32_1048 : BitVec 32 := 4#32
  let v933 : BitVec 32 := Scalar.remsi v932 c4_i32_1048
  let c1024_i32_1055 : BitVec 32 := 1024#32
  let v940 : BitVec 32 := Scalar.muli v933 c1024_i32_1055
  let c5120_i32_1058 : BitVec 32 := 5120#32
  ![v940.toNat, 5120]
def k0_dev37 (d0 : Dev nD) : Nat :=
  let c0_i32_1073 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1072 : BitVec 32 := 1#32
  let v956 : BitVec 32 := Scalar.muli v7 c1_i32_1072
  let v957 : BitVec 32 := Scalar.addi c0_i32_1073 v956
  v957.toNat
def k0_dev38 (d0 : Dev nD) : Nat :=
  let c0_i32_1076 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1075 : BitVec 32 := 1#32
  let v958 : BitVec 32 := Scalar.muli v4 c1_i32_1075
  let v959 : BitVec 32 := Scalar.addi c0_i32_1076 v958
  v959.toNat
def k0_dev39 (d0 : Dev nD) : Nat :=
  let c0_i32_1084 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1083 : BitVec 32 := 1#32
  let v960 : BitVec 32 := Scalar.muli v4 c1_i32_1083
  let v961 : BitVec 32 := Scalar.addi c0_i32_1084 v960
  v961.toNat
def k0_dev40 (d0 : Dev nD) : Nat :=
  let c0_i32_1094 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1093 : BitVec 32 := 1#32
  let v970 : BitVec 32 := Scalar.muli v7 c1_i32_1093
  let v971 : BitVec 32 := Scalar.addi c0_i32_1094 v970
  v971.toNat
def k0_off10 (d0 : Dev nD) (c0_i32_1137 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1008 : BitVec 32 := Scalar.subi v2 c0_i32_1137
  let c8_i32_1138 : BitVec 32 := 8#32
  let v1009 : BitVec 32 := Scalar.addi v1008 c8_i32_1138
  let c4_i32_1139 : BitVec 32 := 4#32
  let v1010 : BitVec 32 := Scalar.remsi v1009 c4_i32_1139
  let c1024_i32_1142 : BitVec 32 := 1024#32
  let v1013 : BitVec 32 := Scalar.muli v1010 c1024_i32_1142
  let c1024_i32_1145 : BitVec 32 := 1024#32
  ![v1013.toNat, 1024]
def k0_off11 (d0 : Dev nD) (c0_i32_1140 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1011 : BitVec 32 := Scalar.addi v2 c0_i32_1140
  let c4_i32_1141 : BitVec 32 := 4#32
  let v1012 : BitVec 32 := Scalar.remsi v1011 c4_i32_1141
  let c1024_i32_1148 : BitVec 32 := 1024#32
  let v1019 : BitVec 32 := Scalar.muli v1012 c1024_i32_1148
  let c5120_i32_1151 : BitVec 32 := 5120#32
  ![v1019.toNat, 5120]
def k0_dev41 (d0 : Dev nD) : Nat :=
  let c0_i32_1166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1165 : BitVec 32 := 1#32
  let v1035 : BitVec 32 := Scalar.muli v7 c1_i32_1165
  let v1036 : BitVec 32 := Scalar.addi c0_i32_1166 v1035
  v1036.toNat
def k0_dev42 (d0 : Dev nD) : Nat :=
  let c0_i32_1169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1168 : BitVec 32 := 1#32
  let v1037 : BitVec 32 := Scalar.muli v4 c1_i32_1168
  let v1038 : BitVec 32 := Scalar.addi c0_i32_1169 v1037
  v1038.toNat
def k0_dev43 (d0 : Dev nD) : Nat :=
  let c0_i32_1177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1176 : BitVec 32 := 1#32
  let v1039 : BitVec 32 := Scalar.muli v4 c1_i32_1176
  let v1040 : BitVec 32 := Scalar.addi c0_i32_1177 v1039
  v1040.toNat
def k0_dev44 (d0 : Dev nD) : Nat :=
  let c0_i32_1187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1186 : BitVec 32 := 1#32
  let v1049 : BitVec 32 := Scalar.muli v7 c1_i32_1186
  let v1050 : BitVec 32 := Scalar.addi c0_i32_1187 v1049
  v1050.toNat
def k0_dev45 (d0 : Dev nD) : Nat :=
  let c0_i32_1259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1258 : BitVec 32 := 1#32
  let v1114 : BitVec 32 := Scalar.muli v7 c1_i32_1258
  let v1115 : BitVec 32 := Scalar.addi c0_i32_1259 v1114
  v1115.toNat
def k0_dev46 (d0 : Dev nD) : Nat :=
  let c0_i32_1262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1261 : BitVec 32 := 1#32
  let v1116 : BitVec 32 := Scalar.muli v4 c1_i32_1261
  let v1117 : BitVec 32 := Scalar.addi c0_i32_1262 v1116
  v1117.toNat
def k0_dev47 (d0 : Dev nD) : Nat :=
  let c0_i32_1270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1269 : BitVec 32 := 1#32
  let v1118 : BitVec 32 := Scalar.muli v4 c1_i32_1269
  let v1119 : BitVec 32 := Scalar.addi c0_i32_1270 v1118
  v1119.toNat
def k0_dev48 (d0 : Dev nD) : Nat :=
  let c0_i32_1280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1279 : BitVec 32 := 1#32
  let v1128 : BitVec 32 := Scalar.muli v7 c1_i32_1279
  let v1129 : BitVec 32 := Scalar.addi c0_i32_1280 v1128
  v1129.toNat
def k0_dev49 (d0 : Dev nD) : Nat :=
  let c0_i32_1383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1382 : BitVec 32 := 1#32
  let v1224 : BitVec 32 := Scalar.muli v7 c1_i32_1382
  let v1225 : BitVec 32 := Scalar.addi c0_i32_1383 v1224
  v1225.toNat
def k0_dev50 (d0 : Dev nD) : Nat :=
  let c0_i32_1386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1385 : BitVec 32 := 1#32
  let v1226 : BitVec 32 := Scalar.muli v4 c1_i32_1385
  let v1227 : BitVec 32 := Scalar.addi c0_i32_1386 v1226
  v1227.toNat
def k0_dev51 (d0 : Dev nD) : Nat :=
  let c0_i32_1394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1393 : BitVec 32 := 1#32
  let v1228 : BitVec 32 := Scalar.muli v4 c1_i32_1393
  let v1229 : BitVec 32 := Scalar.addi c0_i32_1394 v1228
  v1229.toNat
def k0_dev52 (d0 : Dev nD) : Nat :=
  let c0_i32_1404 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1403 : BitVec 32 := 1#32
  let v1238 : BitVec 32 := Scalar.muli v7 c1_i32_1403
  let v1239 : BitVec 32 := Scalar.addi c0_i32_1404 v1238
  v1239.toNat
def k0_dev53 (d0 : Dev nD) : Nat :=
  let c0_i32_1496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1495 : BitVec 32 := 1#32
  let v1323 : BitVec 32 := Scalar.muli v7 c1_i32_1495
  let v1324 : BitVec 32 := Scalar.addi c0_i32_1496 v1323
  v1324.toNat
def k0_dev54 (d0 : Dev nD) : Nat :=
  let c0_i32_1499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1498 : BitVec 32 := 1#32
  let v1325 : BitVec 32 := Scalar.muli v4 c1_i32_1498
  let v1326 : BitVec 32 := Scalar.addi c0_i32_1499 v1325
  v1326.toNat
def k0_dev55 (d0 : Dev nD) : Nat :=
  let c0_i32_1507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1506 : BitVec 32 := 1#32
  let v1327 : BitVec 32 := Scalar.muli v4 c1_i32_1506
  let v1328 : BitVec 32 := Scalar.addi c0_i32_1507 v1327
  v1328.toNat
def k0_dev56 (d0 : Dev nD) : Nat :=
  let c0_i32_1517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1516 : BitVec 32 := 1#32
  let v1337 : BitVec 32 := Scalar.muli v7 c1_i32_1516
  let v1338 : BitVec 32 := Scalar.addi c0_i32_1517 v1337
  v1338.toNat
def k0_dev57 (d0 : Dev nD) : Nat :=
  let c0_i32_1609 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1608 : BitVec 32 := 1#32
  let v1422 : BitVec 32 := Scalar.muli v7 c1_i32_1608
  let v1423 : BitVec 32 := Scalar.addi c0_i32_1609 v1422
  v1423.toNat
def k0_dev58 (d0 : Dev nD) : Nat :=
  let c0_i32_1612 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1611 : BitVec 32 := 1#32
  let v1424 : BitVec 32 := Scalar.muli v4 c1_i32_1611
  let v1425 : BitVec 32 := Scalar.addi c0_i32_1612 v1424
  v1425.toNat
def k0_dev59 (d0 : Dev nD) : Nat :=
  let c0_i32_1620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1619 : BitVec 32 := 1#32
  let v1426 : BitVec 32 := Scalar.muli v4 c1_i32_1619
  let v1427 : BitVec 32 := Scalar.addi c0_i32_1620 v1426
  v1427.toNat
def k0_dev60 (d0 : Dev nD) : Nat :=
  let c0_i32_1630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1629 : BitVec 32 := 1#32
  let v1436 : BitVec 32 := Scalar.muli v7 c1_i32_1629
  let v1437 : BitVec 32 := Scalar.addi c0_i32_1630 v1436
  v1437.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1720 : BitVec 32 := 1#32
  let v1521 : BitVec 32 := Scalar.addi v2 c1_i32_1720
  let c4_i32_1721 : BitVec 32 := 4#32
  let v1522 : BitVec 32 := Scalar.remsi v1521 c4_i32_1721
  let c1024_i32_1725 : BitVec 32 := 1024#32
  let v1526 : BitVec 32 := Scalar.muli v1522 c1024_i32_1725
  let c2048_i32_1728 : BitVec 32 := 2048#32
  ![v1526.toNat, 2048]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1722 : BitVec 32 := 4#32
  let v1523 : BitVec 32 := Scalar.addi v2 c4_i32_1722
  let c1_i32_1723 : BitVec 32 := 1#32
  let v1524 : BitVec 32 := Scalar.subi v1523 c1_i32_1723
  let c4_i32_1724 : BitVec 32 := 4#32
  let v1525 : BitVec 32 := Scalar.remsi v1524 c4_i32_1724
  let c1024_i32_1731 : BitVec 32 := 1024#32
  let v1532 : BitVec 32 := Scalar.muli v1525 c1024_i32_1731
  let c6144_i32_1734 : BitVec 32 := 6144#32
  ![v1532.toNat, 6144]
def k0_dev61 (d0 : Dev nD) : Nat :=
  let c0_i32_1749 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1748 : BitVec 32 := 1#32
  let v1548 : BitVec 32 := Scalar.muli v7 c1_i32_1748
  let v1549 : BitVec 32 := Scalar.addi c0_i32_1749 v1548
  v1549.toNat
def k0_dev62 (d0 : Dev nD) : Nat :=
  let c0_i32_1752 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1751 : BitVec 32 := 1#32
  let v1550 : BitVec 32 := Scalar.muli v4 c1_i32_1751
  let v1551 : BitVec 32 := Scalar.addi c0_i32_1752 v1550
  v1551.toNat
def k0_dev63 (d0 : Dev nD) : Nat :=
  let c0_i32_1760 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1759 : BitVec 32 := 1#32
  let v1552 : BitVec 32 := Scalar.muli v4 c1_i32_1759
  let v1553 : BitVec 32 := Scalar.addi c0_i32_1760 v1552
  v1553.toNat
def k0_dev64 (d0 : Dev nD) : Nat :=
  let c0_i32_1770 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1769 : BitVec 32 := 1#32
  let v1562 : BitVec 32 := Scalar.muli v7 c1_i32_1769
  let v1563 : BitVec 32 := Scalar.addi c0_i32_1770 v1562
  v1563.toNat
def k0_off14 (d0 : Dev nD) (c0_i32_1813 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1600 : BitVec 32 := Scalar.subi v2 c0_i32_1813
  let c8_i32_1814 : BitVec 32 := 8#32
  let v1601 : BitVec 32 := Scalar.addi v1600 c8_i32_1814
  let c4_i32_1815 : BitVec 32 := 4#32
  let v1602 : BitVec 32 := Scalar.remsi v1601 c4_i32_1815
  let c1024_i32_1818 : BitVec 32 := 1024#32
  let v1605 : BitVec 32 := Scalar.muli v1602 c1024_i32_1818
  let c2048_i32_1821 : BitVec 32 := 2048#32
  ![v1605.toNat, 2048]
def k0_off15 (d0 : Dev nD) (c0_i32_1816 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1603 : BitVec 32 := Scalar.addi v2 c0_i32_1816
  let c4_i32_1817 : BitVec 32 := 4#32
  let v1604 : BitVec 32 := Scalar.remsi v1603 c4_i32_1817
  let c1024_i32_1824 : BitVec 32 := 1024#32
  let v1611 : BitVec 32 := Scalar.muli v1604 c1024_i32_1824
  let c6144_i32_1827 : BitVec 32 := 6144#32
  ![v1611.toNat, 6144]
def k0_dev65 (d0 : Dev nD) : Nat :=
  let c0_i32_1842 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1841 : BitVec 32 := 1#32
  let v1627 : BitVec 32 := Scalar.muli v7 c1_i32_1841
  let v1628 : BitVec 32 := Scalar.addi c0_i32_1842 v1627
  v1628.toNat
def k0_dev66 (d0 : Dev nD) : Nat :=
  let c0_i32_1845 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1844 : BitVec 32 := 1#32
  let v1629 : BitVec 32 := Scalar.muli v4 c1_i32_1844
  let v1630 : BitVec 32 := Scalar.addi c0_i32_1845 v1629
  v1630.toNat
def k0_dev67 (d0 : Dev nD) : Nat :=
  let c0_i32_1853 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1852 : BitVec 32 := 1#32
  let v1631 : BitVec 32 := Scalar.muli v4 c1_i32_1852
  let v1632 : BitVec 32 := Scalar.addi c0_i32_1853 v1631
  v1632.toNat
def k0_dev68 (d0 : Dev nD) : Nat :=
  let c0_i32_1863 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1862 : BitVec 32 := 1#32
  let v1641 : BitVec 32 := Scalar.muli v7 c1_i32_1862
  let v1642 : BitVec 32 := Scalar.addi c0_i32_1863 v1641
  v1642.toNat
def k0_dev69 (d0 : Dev nD) : Nat :=
  let c0_i32_1935 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1934 : BitVec 32 := 1#32
  let v1706 : BitVec 32 := Scalar.muli v7 c1_i32_1934
  let v1707 : BitVec 32 := Scalar.addi c0_i32_1935 v1706
  v1707.toNat
def k0_dev70 (d0 : Dev nD) : Nat :=
  let c0_i32_1938 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1937 : BitVec 32 := 1#32
  let v1708 : BitVec 32 := Scalar.muli v4 c1_i32_1937
  let v1709 : BitVec 32 := Scalar.addi c0_i32_1938 v1708
  v1709.toNat
def k0_dev71 (d0 : Dev nD) : Nat :=
  let c0_i32_1946 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1945 : BitVec 32 := 1#32
  let v1710 : BitVec 32 := Scalar.muli v4 c1_i32_1945
  let v1711 : BitVec 32 := Scalar.addi c0_i32_1946 v1710
  v1711.toNat
def k0_dev72 (d0 : Dev nD) : Nat :=
  let c0_i32_1956 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1955 : BitVec 32 := 1#32
  let v1720 : BitVec 32 := Scalar.muli v7 c1_i32_1955
  let v1721 : BitVec 32 := Scalar.addi c0_i32_1956 v1720
  v1721.toNat
def k0_dev73 (d0 : Dev nD) : Nat :=
  let c0_i32_2059 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2058 : BitVec 32 := 1#32
  let v1816 : BitVec 32 := Scalar.muli v7 c1_i32_2058
  let v1817 : BitVec 32 := Scalar.addi c0_i32_2059 v1816
  v1817.toNat
def k0_dev74 (d0 : Dev nD) : Nat :=
  let c0_i32_2062 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2061 : BitVec 32 := 1#32
  let v1818 : BitVec 32 := Scalar.muli v4 c1_i32_2061
  let v1819 : BitVec 32 := Scalar.addi c0_i32_2062 v1818
  v1819.toNat
def k0_dev75 (d0 : Dev nD) : Nat :=
  let c0_i32_2070 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2069 : BitVec 32 := 1#32
  let v1820 : BitVec 32 := Scalar.muli v4 c1_i32_2069
  let v1821 : BitVec 32 := Scalar.addi c0_i32_2070 v1820
  v1821.toNat
def k0_dev76 (d0 : Dev nD) : Nat :=
  let c0_i32_2080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2079 : BitVec 32 := 1#32
  let v1830 : BitVec 32 := Scalar.muli v7 c1_i32_2079
  let v1831 : BitVec 32 := Scalar.addi c0_i32_2080 v1830
  v1831.toNat
def k0_dev77 (d0 : Dev nD) : Nat :=
  let c0_i32_2172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2171 : BitVec 32 := 1#32
  let v1915 : BitVec 32 := Scalar.muli v7 c1_i32_2171
  let v1916 : BitVec 32 := Scalar.addi c0_i32_2172 v1915
  v1916.toNat
def k0_dev78 (d0 : Dev nD) : Nat :=
  let c0_i32_2175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2174 : BitVec 32 := 1#32
  let v1917 : BitVec 32 := Scalar.muli v4 c1_i32_2174
  let v1918 : BitVec 32 := Scalar.addi c0_i32_2175 v1917
  v1918.toNat
def k0_dev79 (d0 : Dev nD) : Nat :=
  let c0_i32_2183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2182 : BitVec 32 := 1#32
  let v1919 : BitVec 32 := Scalar.muli v4 c1_i32_2182
  let v1920 : BitVec 32 := Scalar.addi c0_i32_2183 v1919
  v1920.toNat
def k0_dev80 (d0 : Dev nD) : Nat :=
  let c0_i32_2193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2192 : BitVec 32 := 1#32
  let v1929 : BitVec 32 := Scalar.muli v7 c1_i32_2192
  let v1930 : BitVec 32 := Scalar.addi c0_i32_2193 v1929
  v1930.toNat
def k0_dev81 (d0 : Dev nD) : Nat :=
  let c0_i32_2285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2284 : BitVec 32 := 1#32
  let v2014 : BitVec 32 := Scalar.muli v7 c1_i32_2284
  let v2015 : BitVec 32 := Scalar.addi c0_i32_2285 v2014
  v2015.toNat
def k0_dev82 (d0 : Dev nD) : Nat :=
  let c0_i32_2288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2287 : BitVec 32 := 1#32
  let v2016 : BitVec 32 := Scalar.muli v4 c1_i32_2287
  let v2017 : BitVec 32 := Scalar.addi c0_i32_2288 v2016
  v2017.toNat
def k0_dev83 (d0 : Dev nD) : Nat :=
  let c0_i32_2296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2295 : BitVec 32 := 1#32
  let v2018 : BitVec 32 := Scalar.muli v4 c1_i32_2295
  let v2019 : BitVec 32 := Scalar.addi c0_i32_2296 v2018
  v2019.toNat
def k0_dev84 (d0 : Dev nD) : Nat :=
  let c0_i32_2306 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2305 : BitVec 32 := 1#32
  let v2028 : BitVec 32 := Scalar.muli v7 c1_i32_2305
  let v2029 : BitVec 32 := Scalar.addi c0_i32_2306 v2028
  v2029.toNat
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2396 : BitVec 32 := 1#32
  let v2113 : BitVec 32 := Scalar.addi v2 c1_i32_2396
  let c4_i32_2397 : BitVec 32 := 4#32
  let v2114 : BitVec 32 := Scalar.remsi v2113 c4_i32_2397
  let c1024_i32_2401 : BitVec 32 := 1024#32
  let v2118 : BitVec 32 := Scalar.muli v2114 c1024_i32_2401
  let c3072_i32_2404 : BitVec 32 := 3072#32
  ![v2118.toNat, 3072]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2398 : BitVec 32 := 4#32
  let v2115 : BitVec 32 := Scalar.addi v2 c4_i32_2398
  let c1_i32_2399 : BitVec 32 := 1#32
  let v2116 : BitVec 32 := Scalar.subi v2115 c1_i32_2399
  let c4_i32_2400 : BitVec 32 := 4#32
  let v2117 : BitVec 32 := Scalar.remsi v2116 c4_i32_2400
  let c1024_i32_2407 : BitVec 32 := 1024#32
  let v2124 : BitVec 32 := Scalar.muli v2117 c1024_i32_2407
  let c7168_i32_2410 : BitVec 32 := 7168#32
  ![v2124.toNat, 7168]
def k0_dev85 (d0 : Dev nD) : Nat :=
  let c0_i32_2425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2424 : BitVec 32 := 1#32
  let v2140 : BitVec 32 := Scalar.muli v7 c1_i32_2424
  let v2141 : BitVec 32 := Scalar.addi c0_i32_2425 v2140
  v2141.toNat
def k0_dev86 (d0 : Dev nD) : Nat :=
  let c0_i32_2428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2427 : BitVec 32 := 1#32
  let v2142 : BitVec 32 := Scalar.muli v4 c1_i32_2427
  let v2143 : BitVec 32 := Scalar.addi c0_i32_2428 v2142
  v2143.toNat
def k0_dev87 (d0 : Dev nD) : Nat :=
  let c0_i32_2436 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2435 : BitVec 32 := 1#32
  let v2144 : BitVec 32 := Scalar.muli v4 c1_i32_2435
  let v2145 : BitVec 32 := Scalar.addi c0_i32_2436 v2144
  v2145.toNat
def k0_dev88 (d0 : Dev nD) : Nat :=
  let c0_i32_2446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2445 : BitVec 32 := 1#32
  let v2154 : BitVec 32 := Scalar.muli v7 c1_i32_2445
  let v2155 : BitVec 32 := Scalar.addi c0_i32_2446 v2154
  v2155.toNat
def k0_off18 (d0 : Dev nD) (c0_i32_2489 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2192 : BitVec 32 := Scalar.subi v2 c0_i32_2489
  let c8_i32_2490 : BitVec 32 := 8#32
  let v2193 : BitVec 32 := Scalar.addi v2192 c8_i32_2490
  let c4_i32_2491 : BitVec 32 := 4#32
  let v2194 : BitVec 32 := Scalar.remsi v2193 c4_i32_2491
  let c1024_i32_2494 : BitVec 32 := 1024#32
  let v2197 : BitVec 32 := Scalar.muli v2194 c1024_i32_2494
  let c3072_i32_2497 : BitVec 32 := 3072#32
  ![v2197.toNat, 3072]
def k0_off19 (d0 : Dev nD) (c0_i32_2492 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2195 : BitVec 32 := Scalar.addi v2 c0_i32_2492
  let c4_i32_2493 : BitVec 32 := 4#32
  let v2196 : BitVec 32 := Scalar.remsi v2195 c4_i32_2493
  let c1024_i32_2500 : BitVec 32 := 1024#32
  let v2203 : BitVec 32 := Scalar.muli v2196 c1024_i32_2500
  let c7168_i32_2503 : BitVec 32 := 7168#32
  ![v2203.toNat, 7168]
def k0_dev89 (d0 : Dev nD) : Nat :=
  let c0_i32_2518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2517 : BitVec 32 := 1#32
  let v2219 : BitVec 32 := Scalar.muli v7 c1_i32_2517
  let v2220 : BitVec 32 := Scalar.addi c0_i32_2518 v2219
  v2220.toNat
def k0_dev90 (d0 : Dev nD) : Nat :=
  let c0_i32_2521 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2520 : BitVec 32 := 1#32
  let v2221 : BitVec 32 := Scalar.muli v4 c1_i32_2520
  let v2222 : BitVec 32 := Scalar.addi c0_i32_2521 v2221
  v2222.toNat
def k0_dev91 (d0 : Dev nD) : Nat :=
  let c0_i32_2529 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2528 : BitVec 32 := 1#32
  let v2223 : BitVec 32 := Scalar.muli v4 c1_i32_2528
  let v2224 : BitVec 32 := Scalar.addi c0_i32_2529 v2223
  v2224.toNat
def k0_dev92 (d0 : Dev nD) : Nat :=
  let c0_i32_2539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2538 : BitVec 32 := 1#32
  let v2233 : BitVec 32 := Scalar.muli v7 c1_i32_2538
  let v2234 : BitVec 32 := Scalar.addi c0_i32_2539 v2233
  v2234.toNat
def k0_dev93 (d0 : Dev nD) : Nat :=
  let c0_i32_2611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2610 : BitVec 32 := 1#32
  let v2298 : BitVec 32 := Scalar.muli v7 c1_i32_2610
  let v2299 : BitVec 32 := Scalar.addi c0_i32_2611 v2298
  v2299.toNat
def k0_dev94 (d0 : Dev nD) : Nat :=
  let c0_i32_2614 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2613 : BitVec 32 := 1#32
  let v2300 : BitVec 32 := Scalar.muli v4 c1_i32_2613
  let v2301 : BitVec 32 := Scalar.addi c0_i32_2614 v2300
  v2301.toNat
def k0_dev95 (d0 : Dev nD) : Nat :=
  let c0_i32_2622 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2621 : BitVec 32 := 1#32
  let v2302 : BitVec 32 := Scalar.muli v4 c1_i32_2621
  let v2303 : BitVec 32 := Scalar.addi c0_i32_2622 v2302
  v2303.toNat
def k0_dev96 (d0 : Dev nD) : Nat :=
  let c0_i32_2632 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2631 : BitVec 32 := 1#32
  let v2312 : BitVec 32 := Scalar.muli v7 c1_i32_2631
  let v2313 : BitVec 32 := Scalar.addi c0_i32_2632 v2312
  v2313.toNat
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Body.lean ====
/-
The kernel's body as a short structured program.

The printed body is one straight run of statements cut into parts. Here it is written again as the
version's own loops say it: four passes of a prologue, three reduce-scatter steps, the store of the
device's own two blocks, and three all-gather steps; a handshake before every ring step. A slot of a
communication buffer is named by a number `k : Fin 2`, so that one definition serves every step.
`cc0_body_eq` says that the printed body is this program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.Regions

@[expose] public section

noncomputable section

namespace Cert.RingProof

open Cert.KernelIdeal Cert.KernelIdeal.Gen
open Idealize.ShloMosaic
open Idealize.ShloMosaic.TcCoe
open Idealize.SL.Sem

variable {F : FTy → Type} [FloatOps F]

/-! ## The buffers and cells, by name -/

abbrev mX : Memref sig .tc .hbm S4096x1024 .f32 := Memref.whole main_arg0
abbrev mW : Memref sig .tc .hbm S1024x8192 .f32 := Memref.whole main_arg1
abbrev mO : Memref sig .tc .hbm S4096x8192 .f32 := Memref.whole main_v1
abbrev cmF : Memref sig .tc .vmem S2x1024x1024 .f32 := Memref.whole cc0_scratch0
abbrev cmB : Memref sig .tc .vmem S2x1024x1024 .f32 := Memref.whole cc0_scratch1
abbrev wtF : Memref sig .tc .vmem S1024x1024 .f32 := Memref.whole cc0_scratch2
abbrev wtB : Memref sig .tc .vmem S1024x1024 .f32 := Memref.whole cc0_scratch3
abbrev xcF : Memref sig .tc .vmem S1024x1024 .f32 := Memref.whole cc0_scratch4
abbrev xcB : Memref sig .tc .vmem S1024x1024 .f32 := Memref.whole cc0_scratch5
abbrev tpF : Memref sig .tc .vmem S1024x1024 .f32 := Memref.whole cc0_scratch6
abbrev tpB : Memref sig .tc .vmem S1024x1024 .f32 := Memref.whole cc0_scratch7

/-- The barrier semaphore. -/
abbrev barS : Sem sig := (SemArray.scalar (sig.barrier 0 rfl) : Sems sig S_).sem

set_option backward.proofsInPublic true in
theorem slot_inb (k : Fin 2) : ∀ a, (![k.val, 0, 0] : Fin 3 → ℕ) a + S1x1024x1024.size a ≤ S2x1024x1024.size a := by
  revert k; decide
theorem s2_inb (k : Fin 2) : ∀ a, (![k.val] : Fin 1 → ℕ) a + S1.size a ≤ S2.size a := by revert k; decide
theorem s4_inb (k : Fin 4) : ∀ a, (![k.val] : Fin 1 → ℕ) a + S1.size a ≤ S4.size a := by revert k; decide
theorem w_inb (n : Fin 8) : ∀ a, (![0, 1024 * n.val] : Fin 2 → ℕ) a + S1024x1024.size a ≤ S1024x8192.size a := by
  revert n; decide

/-- Slot `k` of a pair of DMA semaphores. -/
abbrev sem2 (a : DmaSems sig S2) (k : Fin 2) : DmaSem sig :=
  ((a.slice (Rect.unit (s := S2) ![k.val] S1.size (s2_inb k))).squeeze S_ squeezes_S1_S_).sem
abbrev sem4 (a : DmaSems sig S4) (k : Fin 4) : DmaSem sig :=
  ((a.slice (Rect.unit (s := S4) ![k.val] S1.size (s4_inb k))).squeeze S_ squeezes_S1_S_).sem

abbrev ssF (k : Fin 2) : DmaSem sig := sem2 cc0_scratch8 k
abbrev rsF (k : Fin 2) : DmaSem sig := sem2 cc0_scratch9 k
abbrev ssB (k : Fin 2) : DmaSem sig := sem2 cc0_scratch10 k
abbrev rsB (k : Fin 2) : DmaSem sig := sem2 cc0_scratch11 k
abbrev ldS (k : Fin 4) : DmaSem sig := sem4 cc0_scratch12 k
abbrev stS (k : Fin 2) : DmaSem sig := sem2 cc0_scratch13 k

/-- The rectangle of slot `k` in a communication buffer. -/
abbrev slotR (k : Fin 2) : Rect S2x1024x1024 := Rect.unit (s := S2x1024x1024) ![k.val, 0, 0] S1x1024x1024.size (slot_inb k)

/-- Slot `k` of a communication buffer, as the copies name it. -/
abbrev slot (m : Memref sig .tc .vmem S2x1024x1024 .f32) (k : Fin 2) : Memref sig .tc .vmem S1024x1024 .f32 :=
  (m.slice (slotR k) (fun _ => rfl)).squeeze S1024x1024 squeezes_S1x1024x1024_S1024x1024

/-- Column block `n` of the weight shard. -/
abbrev wTile (n : Fin 8) : Memref sig .tc .hbm S1024x1024 .f32 :=
  mW.slice (Rect.unit (s := S1024x8192) ![0, 1024 * n.val] S1024x1024.size (w_inb n)) (fun _ => rfl)

/-- The window of the x shard at given offsets. -/
abbrev xTile (o : Fin 2 → ℕ) (h : ∀ a, o a + S1024x1024.size a ≤ S4096x1024.size a) : Memref sig .tc .hbm S1024x1024 .f32 :=
  mX.slice (Rect.unit (s := S4096x1024) o S1024x1024.size h) (fun _ => rfl)

/-- The window of the result at given offsets. -/
abbrev oTile (o : Fin 2 → ℕ) (h : ∀ a, o a + S1024x1024.size a ≤ S4096x8192.size a) : Memref sig .tc .hbm S1024x1024 .f32 :=
  mO.slice (Rect.unit (s := S4096x8192) o S1024x1024.size h) (fun _ => rfl)

/-! ## The statements -/

/-- Load a whole 1024 × 1024 buffer. -/
abbrev ld (m : Memref sig .tc .vmem S1024x1024 .f32) : Prog (TpuEff nD τ sig (Elt F) Λ₀ .tc) (Vec F S1024x1024 .f32) :=
  Prog.lift (.load m (Rect.unit (s := S1024x1024) ![0, 0] S1024x1024.size inb_S1024x1024_S1024x1024_0_0).toLoadRect (View.loadsAt_vmem h_S1024x1024))
/-- Store one. -/
abbrev st (m : Memref sig .tc .vmem S1024x1024 .f32) (v : Vec F S1024x1024 .f32) : Prog (TpuEff nD τ sig (Elt F) Λ₀ .tc) PUnit :=
  Prog.lift (.store m (Rect.unit (s := S1024x1024) ![0, 0] S1024x1024.size inb_S1024x1024_S1024x1024_0_0) v Finset.univ (View.stores_vmem_bits_univ h_S1024x1024 rfl) (.inl rfl))
/-- Load a slot. -/
abbrev ldSlot (m : Memref sig .tc .vmem S2x1024x1024 .f32) (k : Fin 2) : Prog (TpuEff nD τ sig (Elt F) Λ₀ .tc) (Vec F S1x1024x1024 .f32) :=
  Prog.lift (.load m (slotR k).toLoadRect (View.loadsAt_vmem h_S1x1024x1024))
/-- Store a slot. -/
abbrev stSlot (m : Memref sig .tc .vmem S2x1024x1024 .f32) (k : Fin 2) (v : Vec F S1x1024x1024 .f32) : Prog (TpuEff nD τ sig (Elt F) Λ₀ .tc) PUnit :=
  Prog.lift (.store m (slotR k) v Finset.univ (View.stores_vmem_bits_univ h_S1x1024x1024 rfl) (.inl rfl))

/-- Start the copy of a window of an input into a whole buffer. -/
abbrev cpIn (src : Memref sig .tc .hbm S1024x1024 .f32) (hs : src.view.WordExact) (dst : Memref sig .tc .vmem S1024x1024 .f32)
    (hd : dst.IsWhole) (sm : DmaSem sig) : Prog (TpuEff nD τ sig (Elt F) Λ₀ .tc) PUnit :=
  Prog.lift (.enqueueDma src (.here dst) (.dma sm) hs hd.wordExact ⟨Or.inl rfl, trivial⟩)
abbrev cpInW (src : Memref sig .tc .hbm S1024x1024 .f32) (hs : src.view.WordExact) (dst : Memref sig .tc .vmem S1024x1024 .f32)
    (hd : dst.IsWhole) (sm : DmaSem sig) : Prog (TpuEff nD τ sig (Elt F) Λ₀ .tc) PUnit :=
  Prog.lift (.waitDma2 sm src dst hs hd.wordExact)

/-- The product of two tiles, as the kernel computes it. -/
abbrev dotT (a b : Vec F S1024x1024 .f32) : FVec F S1024x1024 .f32 := k0_pay7 a b

/-- The handshake: a signal to each neighbour, left first, and the wait for both. -/
def handshake (d : Dev nD) : Prog (TpuEff nD τ sig (Elt F) Λ₀ .tc) PUnit := do
  semSignalWord (⟨k0_dev1 d, k0_dev1_lt d⟩ : Dev nD) barS 1#32
  semSignalWord (⟨k0_dev2 d, k0_dev2_lt d⟩ : Dev nD) barS 1#32
  semWaitWord barS 2#32

/-- Start the two remote copies of a ring step: slot `k` to the right neighbour's slot `l`, and to the left's. -/
def sends (d : Dev nD) (k l : Fin 2) : Prog (TpuEff nD τ sig (Elt F) Λ₀ .tc) PUnit := do
  Prog.lift (.enqueueDma (slot cmF k) (.remote (Dev.tc (⟨k0_dev3 d, k0_dev3_lt d⟩ : Dev nD)) (slot cmF l) (.dma (ssF k))) (.dma (rsF l)) ((View.wordExact_bits rfl).reshape _ _) ((View.wordExact_bits rfl).reshape _ _) ⟨⟨rfl, Or.inl rfl⟩, trivial⟩)
  Prog.lift (.enqueueDma (slot cmB k) (.remote (Dev.tc (⟨k0_dev4 d, k0_dev4_lt d⟩ : Dev nD)) (slot cmB l) (.dma (ssB k))) (.dma (rsB l)) ((View.wordExact_bits rfl).reshape _ _) ((View.wordExact_bits rfl).reshape _ _) ⟨⟨rfl, Or.inl rfl⟩, trivial⟩)

/-- Wait for one remote copy: its source read, then its counterpart's landing. -/
def waitF (k l : Fin 2) : Prog (TpuEff nD τ sig (Elt F) Λ₀ .tc) PUnit := do
  Prog.lift (.waitDma2 (ssF k) (slot cmF l) (slot cmF k) ((View.wordExact_bits rfl).reshape _ _) ((View.wordExact_bits rfl).reshape _ _))
  Prog.lift (.waitDma2 (rsF l) (slot cmF k) (slot cmF l) ((View.wordExact_bits rfl).reshape _ _) ((View.wordExact_bits rfl).reshape _ _))
def waitB (k l : Fin 2) : Prog (TpuEff nD τ sig (Elt F) Λ₀ .tc) PUnit := do
  Prog.lift (.waitDma2 (ssB k) (slot cmB l) (slot cmB k) ((View.wordExact_bits rfl).reshape _ _) ((View.wordExact_bits rfl).reshape _ _))
  Prog.lift (.waitDma2 (rsB l) (slot cmB k) (slot cmB l) ((View.wordExact_bits rfl).reshape _ _) ((View.wordExact_bits rfl).reshape _ _))

/-- `slot l += tmp`. -/
def accum (m : Memref sig .tc .vmem S2x1024x1024 .f32) (tp : Memref sig .tc .vmem S1024x1024 .f32) (l : Fin 2) : Prog (TpuEff nD τ sig (Elt F) Λ₀ .tc) PUnit := do
  let a ← ldSlot m l
  let b ← ld tp
  let _ ← ldSlot m l
  stSlot m l (k0_pay5 a b)

/-- `tmp := xc @ wt`. -/
def mulTile (xc wt tp : Memref sig .tc .vmem S1024x1024 .f32) : Prog (TpuEff nD τ sig (Elt F) Λ₀ .tc) PUnit := do
  let a ← ld xc
  let b ← ld wt
  let _ ← ld tp
  st tp (k0_pay3 a b)

/-- The middle of a reduce-scatter step: the two x windows, their products. -/
def products (d : Dev nD) (s : Fin 3) : Prog (TpuEff nD τ sig (Elt F) Λ₀ .tc) PUnit := do
  cpIn (xTile (k0_off2 d (BitVec.ofNat 32 s.val)) (k0_off2_inb d s)) (View.wordExact_bits rfl) xcF (Memref.isWhole_whole _) (ldS 2)
  cpIn (xTile (k0_off3 d (BitVec.ofNat 32 s.val)) (k0_off3_inb d s)) (View.wordExact_bits rfl) xcB (Memref.isWhole_whole _) (ldS 3)
  cpInW (xTile (k0_off2 d (BitVec.ofNat 32 s.val)) (k0_off2_inb d s)) (View.wordExact_bits rfl) xcF (Memref.isWhole_whole _) (ldS 2)
  mulTile xcF wtF tpF
  cpInW (xTile (k0_off3 d (BitVec.ofNat 32 s.val)) (k0_off3_inb d s)) (View.wordExact_bits rfl) xcB (Memref.isWhole_whole _) (ldS 3)
  mulTile xcB wtB tpB

/-- A reduce-scatter step after its handshake. -/
def rsStep (d : Dev nD) (s : Fin 3) (k l : Fin 2) : Prog (TpuEff nD τ sig (Elt F) Λ₀ .tc) PUnit := do
  sends d k l
  products d s
  waitF k l
  accum cmF tpF l
  waitB k l
  accum cmB tpB l

/-- Store both slots `k` into the result at given offsets, and wait for it. -/
def stores (k : Fin 2) (o : Fin 2 → ℕ) (h : ∀ a, o a + S1024x1024.size a ≤ S4096x8192.size a)
    (o' : Fin 2 → ℕ) (h' : ∀ a, o' a + S1024x1024.size a ≤ S4096x8192.size a) : Prog (TpuEff nD τ sig (Elt F) Λ₀ .tc) PUnit := do
  Prog.lift (.enqueueDma (slot cmF k) (.here (oTile o h)) (.dma (stS 0)) ((View.wordExact_bits rfl).reshape _ _) (View.wordExact_bits rfl) ⟨Or.inl rfl, trivial⟩)
  Prog.lift (.enqueueDma (slot cmB k) (.here (oTile o' h')) (.dma (stS 1)) ((View.wordExact_bits rfl).reshape _ _) (View.wordExact_bits rfl) ⟨Or.inl rfl, trivial⟩)
  Prog.lift (.waitDma2 (stS 0) (slot cmF k) (oTile o h) ((View.wordExact_bits rfl).reshape _ _) (View.wordExact_bits rfl))
  Prog.lift (.waitDma2 (stS 1) (slot cmB k) (oTile o' h') ((View.wordExact_bits rfl).reshape _ _) (View.wordExact_bits rfl))

/-- An all-gather step's copies and their waits, after its handshake. -/
def agStep (d : Dev nD) (k l : Fin 2) : Prog (TpuEff nD τ sig (Elt F) Λ₀ .tc) PUnit := do
  sends d k l
  waitF k l
  waitB k l

/-- `slot 0 := xc @ wt`, both ways round, from the one x window. -/
def firstTile (wt : Memref sig .tc .vmem S1024x1024 .f32) (m : Memref sig .tc .vmem S2x1024x1024 .f32) : Prog (TpuEff nD τ sig (Elt F) Λ₀ .tc) PUnit := do
  let a ← ld xcF
  let b ← ld wt
  let _ ← ldSlot m 0
  stSlot m 0 (k0_pay1 a b)

/-- A pass's prologue: its two weight tiles (column blocks `n` and `n'`), the device's own x window, the first products. -/
def prologue (d : Dev nD) (n n' : Fin 8) : Prog (TpuEff nD τ sig (Elt F) Λ₀ .tc) PUnit := do
  cpIn (wTile n) (View.wordExact_bits rfl) wtF (Memref.isWhole_whole _) (ldS 0)
  cpIn (wTile n') (View.wordExact_bits rfl) wtB (Memref.isWhole_whole _) (ldS 1)
  cpIn (xTile (k0_off1 d) (k0_off1_inb d)) (View.wordExact_bits rfl) xcF (Memref.isWhole_whole _) (ldS 2)
  cpInW (wTile n) (View.wordExact_bits rfl) wtF (Memref.isWhole_whole _) (ldS 0)
  cpInW (wTile n') (View.wordExact_bits rfl) wtB (Memref.isWhole_whole _) (ldS 1)
  cpInW (xTile (k0_off1 d) (k0_off1_inb d)) (View.wordExact_bits rfl) xcF (Memref.isWhole_whole _) (ldS 2)
  firstTile wtF cmF
  firstTile wtB cmB

/-- Everything of a pass from its first ring copies on. -/
def ringPass (d : Dev nD)
    (oF : Fin 2 → ℕ) (hF : ∀ a, oF a + S1024x1024.size a ≤ S4096x8192.size a)
    (oB : Fin 2 → ℕ) (hB : ∀ a, oB a + S1024x1024.size a ≤ S4096x8192.size a)
    (gF : Fin 3 → Fin 2 → ℕ) (kF : ∀ t a, gF t a + S1024x1024.size a ≤ S4096x8192.size a)
    (gB : Fin 3 → Fin 2 → ℕ) (kB : ∀ t a, gB t a + S1024x1024.size a ≤ S4096x8192.size a) : Prog (TpuEff nD τ sig (Elt F) Λ₀ .tc) PUnit := do
  rsStep d 0 0 1
  handshake d
  rsStep d 1 1 0
  handshake d
  rsStep d 2 0 1
  stores 1 oF hF oB hB
  handshake d
  agStep d 1 0
  stores 0 (gF 0) (kF 0) (gB 0) (kB 0)
  handshake d
  agStep d 0 1
  stores 1 (gF 1) (kF 1) (gB 1) (kB 1)
  handshake d
  agStep d 1 0
  stores 0 (gF 2) (kF 2) (gB 2) (kB 2)

/-- The body. -/
def body : Prog (TpuEff nD τ sig (Elt F) Λ₀ .tc) PUnit := do
  let d ← Prog.lift .deviceId
  handshake d
  prologue d 0 4
  ringPass d (k0_off4 d) (k0_off4_inb d) (k0_off5 d) (k0_off5_inb d)
    (fun t => k0_off6 d (BitVec.ofNat 32 t.val)) (k0_off6_inb d) (fun t => k0_off7 d (BitVec.ofNat 32 t.val)) (k0_off7_inb d)
  prologue d 1 5
  handshake d
  ringPass d (k0_off8 d) (k0_off8_inb d) (k0_off9 d) (k0_off9_inb d)
    (fun t => k0_off10 d (BitVec.ofNat 32 t.val)) (k0_off10_inb d) (fun t => k0_off11 d (BitVec.ofNat 32 t.val)) (k0_off11_inb d)
  prologue d 2 6
  handshake d
  ringPass d (k0_off12 d) (k0_off12_inb d) (k0_off13 d) (k0_off13_inb d)
    (fun t => k0_off14 d (BitVec.ofNat 32 t.val)) (k0_off14_inb d) (fun t => k0_off15 d (BitVec.ofNat 32 t.val)) (k0_off15_inb d)
  prologue d 3 7
  handshake d
  ringPass d (k0_off16 d) (k0_off16_inb d) (k0_off17 d) (k0_off17_inb d)
    (fun t => k0_off18 d (BitVec.ofNat 32 t.val)) (k0_off18_inb d) (fun t => k0_off19 d (BitVec.ofNat 32 t.val)) (k0_off19_inb d)

/-- The printed body is the structured one. -/
theorem cc0_body_eq : cc0_body (F := F) mX (Memref.isWhole_whole _) mW (Memref.isWhole_whole _) mO (Memref.isWhole_whole _)
    cmF (Memref.isWhole_whole _) cmB (Memref.isWhole_whole _) wtF (Memref.isWhole_whole _) wtB (Memref.isWhole_whole _)
    xcF (Memref.isWhole_whole _) xcB (Memref.isWhole_whole _) tpF (Memref.isWhole_whole _) tpB (Memref.isWhole_whole _)
    cc0_scratch8 cc0_scratch9 cc0_scratch10 cc0_scratch11 cc0_scratch12 cc0_scratch13 = body (F := F) := by
  chain_rfl

end Cert.RingProof

end
-- ==== Proof.Sched.lean ====
/-
The protocol of the ring: contents, schedule, debts and levels.

There are 24 ring steps, numbered `g = 6 * pass + step`. At ring step `g` every device copies slot
`par g` of its forward buffer into slot `par (g + 1)` of its right neighbour's, and slot `par g` of its
backward buffer into slot `par (g + 1)` of its left neighbour's. Before it, the two-sided handshake:

* the barrier cell of device `x`, round `g`, has two duties of one unit: `true`, paid by `nxt x` (its
  signal to the left), which hands `x` the slot `par (g + 1)` of `nxt x`'s forward buffer; and `false`,
  paid by `prv x` (its signal to the right), which hands `x` that slot of `prv x`'s backward buffer. Each
  also hands over that its payer stands at round `g / 2` of the receive cell belonging to that slot;
* a send cell hands its owner the slot back;
* a receive cell hands its owner the slot holding what the neighbour sent, and that the neighbour has
  finished its own handshake of this ring step (so that the next signal to it has a round to land in).
-/
module

public import proofs.«01_k».proof.Proof.Body
public import Idealize.ShloMosaic.Lib.Rounds
public import Idealize.ShloMosaic.Lib.Transfers
public import Idealize.ShloMosaic.Lib.Pipeline.Launch
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the ring's rounds, the local copies' counters -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
omit [FloatOps F] in
instance ER_landsIn : (ER : Emb UB (MT nD τ sig ℕ (Elt F) ℕ UU ℕ)).LandsIn (upEmb : UEmb _ (MT nD τ sig ℕ (Elt F) ℕ UU ℕ)) := by
  unfold ER; infer_instance
abbrev EC : UEmb Counters (MT nD τ sig ℕ (Elt F) ℕ UU ℕ) := countersEmb

/-! ## The ring -/

set_option backward.proofsInPublic true in
/-- The device (and the row block) `j` places to the right; -/
def fwd (c : Dev nD) (j : ℕ) : Dev nD := ⟨(c.val + j) % 4, Nat.mod_lt _ (by decide)⟩
set_option backward.proofsInPublic true in
/-- to the left. -/
def back (c : Dev nD) (j : ℕ) : Dev nD := ⟨(c.val + 3 * j) % 4, Nat.mod_lt _ (by decide)⟩

abbrev nxt (c : Dev nD) : Dev nD := fwd c 1
abbrev prv (c : Dev nD) : Dev nD := back c 1

theorem fwd_back (c : Dev nD) (j : ℕ) : fwd (back c j) j = c := by
  have := c.isLt; apply Fin.ext; simp only [fwd, back]; change c.val < 4 at this; omega
theorem back_fwd (c : Dev nD) (j : ℕ) : back (fwd c j) j = c := by
  have := c.isLt; apply Fin.ext; simp only [fwd, back]; change c.val < 4 at this; omega
theorem back_back (c : Dev nD) (i j : ℕ) : back (back c i) j = back c (i + j) := by
  apply Fin.ext; simp only [back]; omega
theorem fwd_fwd (c : Dev nD) (i j : ℕ) : fwd (fwd c i) j = fwd c (i + j) := by
  apply Fin.ext; simp only [fwd]; omega

theorem left_eq (c : Dev nD) : (⟨k0_dev1 c, k0_dev1_lt c⟩ : Dev nD) = prv c := Fin.ext (k0_dev1_eq c)
theorem right_eq (c : Dev nD) : (⟨k0_dev2 c, k0_dev2_lt c⟩ : Dev nD) = nxt c := Fin.ext (k0_dev2_eq c)
theorem right_eq' (c : Dev nD) : (⟨k0_dev3 c, k0_dev3_lt c⟩ : Dev nD) = nxt c := Fin.ext (k0_dev3_eq c)
theorem left_eq' (c : Dev nD) : (⟨k0_dev4 c, k0_dev4_lt c⟩ : Dev nD) = prv c := Fin.ext (k0_dev4_eq c)

set_option backward.proofsInPublic true in
/-- The slot ring step `g` sends from. -/
def par (g : ℕ) : Fin 2 := ⟨g % 2, Nat.mod_lt _ (by decide)⟩

/-! ## Cells -/

abbrev barC (c : Dev nD) : GSem nD τ sig := ((c : Thread nD τ), .reg barS)
abbrev sFC (c : Dev nD) (k : Fin 2) : GSem nD τ sig := ((c : Thread nD τ), .dma (ssF k))
abbrev rFC (c : Dev nD) (k : Fin 2) : GSem nD τ sig := ((c : Thread nD τ), .dma (rsF k))
abbrev sBC (c : Dev nD) (k : Fin 2) : GSem nD τ sig := ((c : Thread nD τ), .dma (ssB k))
abbrev rBC (c : Dev nD) (k : Fin 2) : GSem nD τ sig := ((c : Thread nD τ), .dma (rsB k))

/-- What a cell is for. -/
inductive Role where
  | bar | sF (k : Fin 2) | rF (k : Fin 2) | sB (k : Fin 2) | rB (k : Fin 2) | other
deriving DecidableEq

def role : SemLoc sig → Role
  | .reg s => if s = barS then .bar else .other
  | .dma d => match d.val / 2 with
    | 0 => .sF (par d.val)
    | 1 => .rF (par d.val)
    | 2 => .sB (par d.val)
    | 3 => .rB (par d.val)
    | _ => .other

theorem role_bar : role (.reg barS) = .bar := by unfold role; exact if_pos rfl
theorem role_sF (k : Fin 2) : role (.dma (ssF k)) = .sF k := by revert k; decide
theorem role_rF (k : Fin 2) : role (.dma (rsF k)) = .rF k := by revert k; decide
theorem role_sB (k : Fin 2) : role (.dma (ssB k)) = .sB k := by revert k; decide
theorem role_rB (k : Fin 2) : role (.dma (rsB k)) = .rB k := by revert k; decide

/-- The credit of one slot. -/
def N : ℕ := (slot cmF 0).view.dmaCredit
theorem N_pos : 0 < N := View.dmaCredit_pos _ (Shape.numel_pos (by decide))

/-! ## Contents -/

variable (m : (ℓ : Loc nD τ sig) → Buf (Elt F) ℓ)

theorem x_inb (ch : Dev nD) : ∀ a, (![1024 * ch.val, 0] : Fin 2 → ℕ) a + S1024x1024.size a ≤ S4096x1024.size a := by
  revert ch; decide
theorem o_inb (ch : Dev nD) (n : Fin 8) : ∀ a, (![1024 * ch.val, 1024 * n.val] : Fin 2 → ℕ) a + S1024x1024.size a ≤ S4096x8192.size a := by
  revert ch n; decide

/-- Row block `ch` of device `c`'s x shard. -/
def xCh (c ch : Dev nD) : Vec F S1024x1024 .f32 :=
  (xTile ![1024 * ch.val, 0] (x_inb ch)).view.read (Elt F) (m ((c : Thread nD τ).loc main_arg0))
/-- Column block `n` of its w shard. -/
def wCh (c : Dev nD) (n : Fin 8) : Vec F S1024x1024 .f32 :=
  (wTile n).view.read (Elt F) (m ((c : Thread nD τ).loc main_arg1))

set_option backward.proofsInPublic true in
/-- The column blocks of pass `p`: forward, -/
def nF (p : ℕ) : Fin 8 := ⟨p % 4, by omega⟩
set_option backward.proofsInPublic true in
/-- and backward. -/
def nB (p : ℕ) : Fin 8 := ⟨4 + p % 4, by omega⟩

/-- The sum the kernel stores, as a tile. -/
abbrev addT (a b : Vec F S1024x1024 .f32) : Vec F S1024x1024 .f32 := addf (F := F) a b

/-- What device `c` sends forward at step `j` of pass `p`. -/
def srcF (p : ℕ) : ℕ → Dev nD → Vec F S1024x1024 .f32
  | 0, c => dotT (xCh m c c) (wCh m c (nF p))
  | j + 1, c => if j < 3 then addT (srcF p j (prv c)) (dotT (xCh m c (back c (j + 1))) (wCh m c (nF p))) else srcF p j (prv c)
/-- And backward. -/
def srcB (p : ℕ) : ℕ → Dev nD → Vec F S1024x1024 .f32
  | 0, c => dotT (xCh m c c) (wCh m c (nB p))
  | j + 1, c => if j < 3 then addT (srcB p j (nxt c)) (dotT (xCh m c (fwd c (j + 1))) (wCh m c (nB p))) else srcB p j (nxt c)

/-- By ring step. -/
def gF (g : ℕ) (c : Dev nD) : Vec F S1024x1024 .f32 := srcF m (g / 6) (g % 6) c
def gB (g : ℕ) (c : Dev nD) : Vec F S1024x1024 .f32 := srcB m (g / 6) (g % 6) c

/-! ## Ownership of a slot -/

/-- Slot `k` of device `c`, at some contents; -/
def slotAny (M : Memref sig .tc .vmem S2x1024x1024 .f32) (c : Dev nD) (k : Fin 2) : sProp 𝕄 :=
  iprop(∃ f, ((slot M k).view.loc (c : Thread nD τ) ↦[(slot M k).view.set]{fullShare} f))
/-- at contents the slot reads as `X`. -/
def slotIs (M : Memref sig .tc .vmem S2x1024x1024 .f32) (c : Dev nD) (k : Fin 2) (X : Vec F S1024x1024 .f32) : sProp 𝕄 :=
  iprop(∃ f, ⌜(slot M k).view.read (Elt F) f = X⌝ ∗ ((slot M k).view.loc (c : Thread nD τ) ↦[(slot M k).view.set]{fullShare} f))

omit [FloatOps F] in
instance slotAny_storable (M) (c : Dev nD) (k) : BI.Storable (upEmb : UEmb _ 𝕄) (slotAny (F := F) M c k) := by unfold slotAny; infer_instance
omit [FloatOps F] in
instance slotIs_storable (M) (c : Dev nD) (k) (X) : BI.Storable (upEmb : UEmb _ 𝕄) (slotIs (F := F) M c k X) := by unfold slotIs; infer_instance

omit [FloatOps F] in
theorem slotIs_any (M) (c : Dev nD) (k) (X) : slotIs (F := F) M c k X ⊢ slotAny M c k := by
  unfold slotIs slotAny
  iintro ⟨%f, -, H⟩
  iexists f; iexact H

/-! ## The schedule -/

/-- The payload of a cell of device `x`, by its role. -/
def pay (x : Dev nD) (r : ℕ) (d : Bool) : Role → sProp 𝕄
  | .bar => if d then iprop(slotAny cmF (nxt x) (par (r + 1)) ∗ reached ER (rFC (nxt x) (par (r + 1))) (r / 2))
      else iprop(slotAny cmB (prv x) (par (r + 1)) ∗ reached ER (rBC (prv x) (par (r + 1))) (r / 2))
  | .sF k => slotAny cmF x k
  | .sB k => slotAny cmB x k
  | .rF k => iprop(slotIs cmF x k (gF m (2 * r + 1 - k.val) (prv x)) ∗ reached ER (barC (prv x)) (2 * r + 1 - k.val + 1))
  | .rB k => iprop(slotIs cmB x k (gB m (2 * r + 1 - k.val) (nxt x)) ∗ reached ER (barC (nxt x)) (2 * r + 1 - k.val + 1))
  | .other => iprop(emp)

def dut (r : ℕ) : Role → Finset Bool
  | .bar => if r < 24 then Finset.univ else ∅
  | .other => ∅
  | _ => if r < 12 then {false} else ∅

/-- The ring's schedule. -/
def Rd : Rounds.Schedule (GSem nD τ sig) Bool 𝕄 where
  duties g r := if g.1.2 = .tc then dut r (role g.2) else ∅
  amount g _ _ := if role g.2 = .bar then 1 else N
  payload g r d := pay m g.1.1 r d (role g.2)
  amount_pos g _ _ _ := by
    by_cases h : role g.2 = .bar
    · rw [if_pos h]; exact Nat.one_pos
    · rw [if_neg h]; exact N_pos

omit [FloatOps F] in
theorem pay_storable_of (A : sProp 𝕄) [BI.Storable (upEmb : UEmb _ 𝕄) A] : BI.Storable (upEmb : UEmb _ 𝕄) A := inferInstance

instance Rd_payload_storable (g : GSem nD τ sig) (r : ℕ) (d : Bool) : BI.Storable (upEmb : UEmb _ 𝕄) ((Rd (F := F) m).payload g r d) := by
  show BI.Storable upEmb (pay m g.1.1 r d (role g.2))
  unfold pay
  (repeat' split) <;> infer_instance

section Sched
variable (c : Dev nD) (k : Fin 2) (r : ℕ)

theorem duties_bar (h : r < 24) : (Rd (F := F) m).duties (barC c) r = Finset.univ := by
  dsimp only [Rd]; rw [if_pos rfl, role_bar]; exact if_pos h
theorem duties_sF (h : r < 12) : (Rd (F := F) m).duties (sFC c k) r = {false} := by
  dsimp only [Rd]; rw [if_pos rfl, role_sF]; exact if_pos h
theorem duties_rF (h : r < 12) : (Rd (F := F) m).duties (rFC c k) r = {false} := by
  dsimp only [Rd]; rw [if_pos rfl, role_rF]; exact if_pos h
theorem duties_sB (h : r < 12) : (Rd (F := F) m).duties (sBC c k) r = {false} := by
  dsimp only [Rd]; rw [if_pos rfl, role_sB]; exact if_pos h
theorem duties_rB (h : r < 12) : (Rd (F := F) m).duties (rBC c k) r = {false} := by
  dsimp only [Rd]; rw [if_pos rfl, role_rB]; exact if_pos h

theorem late_bar : ∀ r, 24 ≤ r → (Rd (F := F) m).duties (barC c) r = ∅ := fun r h => by
  dsimp only [Rd]; rw [if_pos rfl, role_bar]; exact if_neg (by omega)
theorem late_sF : ∀ r, 12 ≤ r → (Rd (F := F) m).duties (sFC c k) r = ∅ := fun r h => by
  dsimp only [Rd]; rw [if_pos rfl, role_sF]; exact if_neg (by omega)
theorem late_rF : ∀ r, 12 ≤ r → (Rd (F := F) m).duties (rFC c k) r = ∅ := fun r h => by
  dsimp only [Rd]; rw [if_pos rfl, role_rF]; exact if_neg (by omega)
theorem late_sB : ∀ r, 12 ≤ r → (Rd (F := F) m).duties (sBC c k) r = ∅ := fun r h => by
  dsimp only [Rd]; rw [if_pos rfl, role_sB]; exact if_neg (by omega)
theorem late_rB : ∀ r, 12 ≤ r → (Rd (F := F) m).duties (rBC c k) r = ∅ := fun r h => by
  dsimp only [Rd]; rw [if_pos rfl, role_rB]; exact if_neg (by omega)

theorem amount_bar (d : Bool) : (Rd (F := F) m).amount (barC c) r d = 1 := by dsimp only [Rd]; exact if_pos role_bar
theorem amount_sF (d : Bool) : (Rd (F := F) m).amount (sFC c k) r d = N := by dsimp only [Rd]; rw [role_sF]; exact if_neg (fun h => by cases h)
theorem amount_rF (d : Bool) : (Rd (F := F) m).amount (rFC c k) r d = N := by dsimp only [Rd]; rw [role_rF]; exact if_neg (fun h => by cases h)
theorem amount_sB (d : Bool) : (Rd (F := F) m).amount (sBC c k) r d = N := by dsimp only [Rd]; rw [role_sB]; exact if_neg (fun h => by cases h)
theorem amount_rB (d : Bool) : (Rd (F := F) m).amount (rBC c k) r d = N := by dsimp only [Rd]; rw [role_rB]; exact if_neg (fun h => by cases h)

theorem expect_bar (h : r < 24) : (Rd (F := F) m).expect (barC c) r = 2 := by
  unfold Schedule.expect Schedule.amountOf
  rw [duties_bar m c r h, Finset.sum_congr rfl fun d _ => amount_bar m c r d]; rfl
theorem expect_sF (h : r < 12) : (Rd (F := F) m).expect (sFC c k) r = N := by
  unfold Schedule.expect Schedule.amountOf; rw [duties_sF m c k r h, Finset.sum_singleton, amount_sF]
theorem expect_rF (h : r < 12) : (Rd (F := F) m).expect (rFC c k) r = N := by
  unfold Schedule.expect Schedule.amountOf; rw [duties_rF m c k r h, Finset.sum_singleton, amount_rF]
theorem expect_sB (h : r < 12) : (Rd (F := F) m).expect (sBC c k) r = N := by
  unfold Schedule.expect Schedule.amountOf; rw [duties_sB m c k r h, Finset.sum_singleton, amount_sB]
theorem expect_rB (h : r < 12) : (Rd (F := F) m).expect (rBC c k) r = N := by
  unfold Schedule.expect Schedule.amountOf; rw [duties_rB m c k r h, Finset.sum_singleton, amount_rB]

theorem payload_bar_true : (Rd (F := F) m).payload (barC c) r true
    = iprop(slotAny cmF (nxt c) (par (r + 1)) ∗ reached ER (rFC (nxt c) (par (r + 1))) (r / 2)) := by
  dsimp only [Rd]; rw [role_bar]; rfl
theorem payload_bar_false : (Rd (F := F) m).payload (barC c) r false
    = iprop(slotAny cmB (prv c) (par (r + 1)) ∗ reached ER (rBC (prv c) (par (r + 1))) (r / 2)) := by
  dsimp only [Rd]; rw [role_bar]; rfl
theorem payload_sF (d : Bool) : (Rd (F := F) m).payload (sFC c k) r d = slotAny cmF c k := by dsimp only [Rd]; rw [role_sF]; rfl
theorem payload_sB (d : Bool) : (Rd (F := F) m).payload (sBC c k) r d = slotAny cmB c k := by dsimp only [Rd]; rw [role_sB]; rfl

/-- The receive cells' payloads, at the ring step they belong to. -/
theorem payload_rF (g : ℕ) (d : Bool) : (Rd (F := F) m).payload (rFC c (par (g + 1))) (g / 2) d
    = iprop(slotIs cmF c (par (g + 1)) (gF m g (prv c)) ∗ reached ER (barC (prv c)) (g + 1)) := by
  dsimp only [Rd]; rw [role_rF]
  show iprop(slotIs cmF c (par (g + 1)) (gF m (2 * (g / 2) + 1 - (g + 1) % 2) (prv c)) ∗ reached ER (barC (prv c)) (2 * (g / 2) + 1 - (g + 1) % 2 + 1)) = _
  rw [show 2 * (g / 2) + 1 - (g + 1) % 2 = g by omega]
theorem payload_rB (g : ℕ) (d : Bool) : (Rd (F := F) m).payload (rBC c (par (g + 1))) (g / 2) d
    = iprop(slotIs cmB c (par (g + 1)) (gB m g (nxt c)) ∗ reached ER (barC (nxt c)) (g + 1)) := by
  dsimp only [Rd]; rw [role_rB]
  show iprop(slotIs cmB c (par (g + 1)) (gB m (2 * (g / 2) + 1 - (g + 1) % 2) (nxt c)) ∗ reached ER (barC (nxt c)) (2 * (g / 2) + 1 - (g + 1) % 2 + 1)) = _
  rw [show 2 * (g / 2) + 1 - (g + 1) % 2 = g by omega]

theorem rest_bar (h : r < 24) : bigSep ((Rd (F := F) m).duties (barC c) r \ ∅) (fun d => (Rd (F := F) m).payload (barC c) r d)
    = iprop((slotAny cmB (prv c) (par (r + 1)) ∗ reached ER (rBC (prv c) (par (r + 1))) (r / 2))
        ∗ (slotAny cmF (nxt c) (par (r + 1)) ∗ reached ER (rFC (nxt c) (par (r + 1))) (r / 2))) := by
  rw [Finset.sdiff_empty, duties_bar m c r h, bigSep_univ_eq_bigSepL [false, true] (by decide) (by decide), bigSepL_cons_cons, bigSepL_singleton,
    payload_bar_false, payload_bar_true]
  rfl
theorem rest_sF (h : r < 12) : bigSep ((Rd (F := F) m).duties (sFC c k) r \ ∅) (fun d => (Rd (F := F) m).payload (sFC c k) r d) = slotAny cmF c k := by
  rw [Finset.sdiff_empty, duties_sF m c k r h, bigSep_singleton, payload_sF]
theorem rest_sB (h : r < 12) : bigSep ((Rd (F := F) m).duties (sBC c k) r \ ∅) (fun d => (Rd (F := F) m).payload (sBC c k) r d) = slotAny cmB c k := by
  rw [Finset.sdiff_empty, duties_sB m c k r h, bigSep_singleton, payload_sB]
theorem rest_rF (g : ℕ) (h : g < 24) : bigSep ((Rd (F := F) m).duties (rFC c (par (g + 1))) (g / 2) \ ∅) (fun d => (Rd (F := F) m).payload (rFC c (par (g + 1))) (g / 2) d)
    = iprop(slotIs cmF c (par (g + 1)) (gF m g (prv c)) ∗ reached ER (barC (prv c)) (g + 1)) := by
  rw [Finset.sdiff_empty, duties_rF m c _ _ (by omega), bigSep_singleton, payload_rF]
theorem rest_rB (g : ℕ) (h : g < 24) : bigSep ((Rd (F := F) m).duties (rBC c (par (g + 1))) (g / 2) \ ∅) (fun d => (Rd (F := F) m).payload (rBC c (par (g + 1))) (g / 2) d)
    = iprop(slotIs cmB c (par (g + 1)) (gB m g (nxt c)) ∗ reached ER (barC (nxt c)) (g + 1)) := by
  rw [Finset.sdiff_empty, duties_rB m c _ _ (by omega), bigSep_singleton, payload_rB]

end Sched

/-! ## Debts and levels -/

/-- What device `c` owes for ring step `g`: its two copies' credit at the neighbours' receive cells, -/
def owX (c : Dev nD) (g : ℕ) : CellTallies nD τ sig ℕ :=
  tallyAt (rBC (prv c) (par (g + 1))) (g + 1) N + tallyAt (rFC (nxt c) (par (g + 1))) (g + 1) N
/-- and its two signals besides. -/
def owStep (c : Dev nD) (g : ℕ) : CellTallies nD τ sig ℕ :=
  owX c g + tallyAt (barC (nxt c)) (g + 1) 1 + tallyAt (barC (prv c)) (g + 1) 1
/-- From ring step `g` on; -/
def ow (c : Dev nD) (g : ℕ) : CellTallies nD τ sig ℕ := ∑ j ∈ Finset.Ico g 24, owStep c j
/-- between ring step `g`'s handshake and its copies. -/
def owH (c : Dev nD) (g : ℕ) : CellTallies nD τ sig ℕ := ow c (g + 1) + owX c g

theorem steps_cons (g : ℕ) (h : g < 24) : Finset.Ico g 24 = insert g (Finset.Ico (g + 1) 24) := by
  ext x; rw [Finset.mem_insert, Finset.mem_Ico, Finset.mem_Ico]; omega
theorem not_mem_later (g : ℕ) : g ∉ Finset.Ico (g + 1) 24 := by rw [Finset.mem_Ico]; omega

theorem ow_step (c : Dev nD) (g : ℕ) (h : g < 24) :
    ow c g = owH c g + tallyAt (barC (nxt c)) (g + 1) 1 + tallyAt (barC (prv c)) (g + 1) 1 := by
  unfold ow owH
  rw [steps_cons g h, Finset.sum_insert (not_mem_later g), add_comm]
  unfold ow owStep
  simp only [add_assoc]
theorem ow_end (c : Dev nD) : ow c 24 = 0 := by unfold ow; rw [Finset.Ico_self]; rfl

def L (g : GSem nD τ sig) : Finset ℕ := if g.1.2 = .tc then Finset.range 25 else ∅
/-- Ring step by ring step; within one, the signals below the copies. Index 0, the local copies and the sends, is below all. -/
def lv (g : GSem nD τ sig) (u : ℕ) : ℕ := 2 * u + (if role g.2 = .bar then 0 else 1)

theorem L_of_ne (g : GSem nD τ sig) (h : g.1.2 ≠ .tc) : L g = ∅ := if_neg h
theorem L_tc (c : Dev nD) (sm : SemLoc sig) : L ((c : Thread nD τ), sm) = Finset.range 25 := if_pos rfl

/-- All of `O` is owed at ring step `g` or later. -/
def From (g : ℕ) (O : CellTallies nD τ sig ℕ) : Prop :=
  ∀ (x : GSem nD τ sig) (u : ℕ), 0 < O x u → u ∈ L x ∧ g + 1 ≤ u

theorem from_tally (c : Dev nD) (sm : SemLoc sig) (g j n : ℕ) (hj : j < 24) (hg : g ≤ j) : From g (tallyAt ((c : Thread nD τ), sm) (j + 1) n) := fun x u h => by
  obtain ⟨rfl, rfl⟩ := Pipeline.tallyAt_pos h
  rw [L_tc, Finset.mem_range]; omega
theorem from_add {g : ℕ} {O O' : CellTallies nD τ sig ℕ} (h : From g O) (h' : From g O') : From g (O + O') := fun x u hp => by
  rcases Pipeline.add_pos_cases hp with hp | hp
  · exact h x u hp
  · exact h' x u hp
theorem from_ow (c : Dev nD) (g g' : ℕ) (h : g' ≤ g) : From g' (ow c g) := fun x u hp => by
  obtain ⟨j, hj, hp⟩ := Pipeline.sum_pos_exists hp
  obtain ⟨h1, h2⟩ := Finset.mem_Ico.mp hj
  have hf := fun d (sm : SemLoc sig) n => from_tally d sm g' j n h2 (h.trans h1)
  exact from_add (from_add (from_add (hf _ _ _) (hf _ _ _)) (hf _ _ _)) (hf _ _ _) x u hp
theorem from_owX (c : Dev nD) (g g' : ℕ) (hg : g < 24) (h : g' ≤ g) : From g' (owX c g) :=
  from_add (from_tally _ _ _ _ _ hg h) (from_tally _ _ _ _ _ hg h)
theorem from_owH (c : Dev nD) (g g' : ℕ) (hg : g < 24) (h : g' ≤ g) : From g' (owH c g) :=
  from_add (from_ow c (g + 1) g' (by omega)) (from_owX c g g' hg h)

omit [FloatOps F] in
/-- A wait at index 0 — a local copy's, or a send's. -/
theorem mayWait_local (c : Dev nD) (q : DmaSem sig) {O : CellTallies nD τ sig ℕ} (h : From 0 O) :
    (levAts L lv : sProp 𝕄) ⊢ MayWait (c : Thread nD τ) (.dma q) 0 O :=
  Pipeline.mayWait_of_levAts (by rw [L_tc]; decide) fun x u hp => by
    obtain ⟨h1, h2⟩ := h x u hp
    refine ⟨h1, ?_⟩
    unfold lv
    split <;> split <;> omega
omit [FloatOps F] in
/-- The handshake's wait at ring step `g`: nothing is owed but its copies and what is later. -/
theorem mayWait_bar (c : Dev nD) (g : ℕ) (hg : g < 24) :
    (levAts L lv : sProp 𝕄) ⊢ MayWait (c : Thread nD τ) (.reg barS) (g + 1) (owH c g) :=
  Pipeline.mayWait_of_levAts (by rw [L_tc, Finset.mem_range]; omega) fun x u hp => by
    have hb : lv ((c : Thread nD τ), .reg barS) (g + 1) = 2 * (g + 1) := by unfold lv; rw [if_pos role_bar]; rfl
    rw [hb]
    have hx (d : Dev nD) (q : DmaSem sig) (k : Fin 2) (hq : role (.dma q) ≠ .bar) (hp : 0 < tallyAt ((d : Thread nD τ), .dma q) (g + 1) N x u) :
        u ∈ L x ∧ 2 * (g + 1) < lv x u := by
      obtain ⟨rfl, rfl⟩ := Pipeline.tallyAt_pos hp
      refine ⟨by rw [L_tc, Finset.mem_range]; omega, ?_⟩
      unfold lv; rw [if_neg hq]; omega
    unfold owH owX at hp
    rcases Pipeline.add_pos_cases hp with hp | hp
    · obtain ⟨h1, h2⟩ := from_ow c (g + 1) (g + 1) le_rfl x u hp
      refine ⟨h1, ?_⟩
      unfold lv; omega
    · rcases Pipeline.add_pos_cases hp with hp | hp
      · exact hx _ _ 0 (by rw [role_rB]; exact fun h => by cases h) hp
      · exact hx _ _ 0 (by rw [role_rF]; exact fun h => by cases h) hp
omit [FloatOps F] in
/-- A landing's wait at ring step `g`: only later ring steps are owed. -/
theorem mayWait_recv (c : Dev nD) (q : DmaSem sig) (g : ℕ) (hg : g < 24) :
    (levAts L lv : sProp 𝕄) ⊢ MayWait (c : Thread nD τ) (.dma q) (g + 1) (ow c (g + 1)) :=
  Pipeline.mayWait_of_levAts (by rw [L_tc, Finset.mem_range]; omega) fun x u hp => by
    obtain ⟨h1, h2⟩ := from_ow c (g + 1) (g + 1) le_rfl x u hp
    refine ⟨h1, ?_⟩
    unfold lv
    split <;> split <;> omega

end Cert.RingProof

end
-- ==== Proof.Ring.lean ====
/-
The ring's own statements at a symbolic device `c` and ring step `g`: the handshake, the two remote
copies, and the waits for them. Between the statements the resources stand as follows, for the
forward direction (`F…`) and, mirrored, for the backward one (`B…`):

* `F0 c g`, before the handshake: the device's send and receive cells of the direction at the rounds
  ring step `g` finds them at, and that the neighbour whose data arrives has reached the handshake;
* `F1 c g`, after it: the right to copy too, with the neighbour's slot to copy into;
* `F2 c g`, after the copies are started: what the two waits spend.
-/
module

public import proofs.«01_k».proof.Proof.Sched

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- Running a piece of device `c`'s program. -/
abbrev runs (c : Dev nD) (p : Prog (TpuEff nD τ sig (Elt F) Λ₀ .tc) PUnit) (Kt : PUnit → sProp 𝕄) : sProp 𝕄 :=
  wp frame (wpE (defs₀ (F := F)) 𝒱₀ (c : Thread nD τ) none) Set.univ p Kt

theorem nxt_prv (c : Dev nD) : nxt (prv c) = c := fwd_back c 1
theorem prv_nxt (c : Dev nD) : prv (nxt c) = c := back_fwd c 1

variable (m : (ℓ : Loc nD τ sig) → Buf (Elt F) ℓ)

/-! ## The cells' invariants -/

/-- A device's nine cells of the ring: its barrier, and two each of its four kinds of DMA cell. -/
abbrev CI : Type := Option (Fin 4 × Fin 2)

def csem : CI → SemLoc sig
  | none => .reg barS
  | some (0, k) => .dma (ssF k)
  | some (1, k) => .dma (rsF k)
  | some (2, k) => .dma (ssB k)
  | some (3, k) => .dma (rsB k)
abbrev kcell (x : Dev nD × CI) : GSem nD τ sig := ((x.1 : Thread nD τ), csem x.2)

/-- Every cell's invariant, and the levels. -/
def env (K : Dev nD × CI → ℕ) : sProp 𝕄 :=
  iprop((bigSep Finset.univ fun x => cellInv ER (Rd (F := F) m) (K x) (kcell x)) ∗ levAts L lv)

instance env_persistent (K : Dev nD × CI → ℕ) : BI.Persistent (env (F := F) m K) := by
  unfold env
  infer_instance

variable (K : Dev nD × CI → ℕ)

theorem inv_at (x : Dev nD × CI) : env (F := F) m K ⊢ cellInv ER (Rd (F := F) m) (K x) (kcell x) := by
  have h : (bigSep Finset.univ fun x : Dev nD × CI => (cellInv ER (Rd (F := F) m) (K x) (kcell x) : sProp 𝕄)) ⊢ cellInv ER (Rd (F := F) m) (K x) (kcell x) :=
    bigSep_elim (Finset.mem_univ x)
  unfold env
  iintro ⟨H, -⟩
  iapply h $$ H
theorem lev_at : env (F := F) m K ⊢ levAts L lv := by
  unfold env
  iintro ⟨-, H⟩
  iexact H

/-! ## States -/

/-- The debt, whatever has been waited for. -/
def owesE (c : Dev nD) (O : CellTallies nD τ sig ℕ) : sProp 𝕄 := iprop(∃ W, owes (c : Thread nD τ) O W)

/-- A cell's owner at the start of round `r` of it. -/
def here (x : GSem nD τ sig) (r : ℕ) : sProp 𝕄 := iprop(atPos ER x r ∅ 0 ∗ reached ER x r)

/-- The tokens and the credit of ring step `g`. -/
def tokBar (c : Dev nD) (g : ℕ) : sProp 𝕄 :=
  iprop(dutyTok ER (barC (prv c)) g true ∗ dutyTok ER (barC (nxt c)) g false ∗ cred (tallyAt (barC c) (g + 1) 2))
def tokF (c : Dev nD) (g : ℕ) : sProp 𝕄 :=
  iprop(dutyTok ER (sFC c (par g)) (g / 2) false ∗ dutyTok ER (rFC (nxt c) (par (g + 1))) (g / 2) false
    ∗ cred (tallyAt (rFC c (par (g + 1))) (g + 1) N))
def tokB (c : Dev nD) (g : ℕ) : sProp 𝕄 :=
  iprop(dutyTok ER (sBC c (par g)) (g / 2) false ∗ dutyTok ER (rBC (prv c) (par (g + 1))) (g / 2) false
    ∗ cred (tallyAt (rBC c (par (g + 1))) (g + 1) N))
def tokens (c : Dev nD) (g : ℕ) : sProp 𝕄 := iprop(tokBar c g ∗ tokF c g ∗ tokB c g)

/-- The barrier cell, and everything of the ring steps from `g` on. -/
def BT (c : Dev nD) (g : ℕ) : sProp 𝕄 := iprop(here (barC c) g ∗ bigSep (Finset.Ico g 24) (tokens c))

omit [FloatOps F] in
theorem BT_step (c : Dev nD) (g : ℕ) (h : g < 24) :
    BT (F := F) c g = iprop(here (barC c) g ∗ tokens c g ∗ bigSep (Finset.Ico (g + 1) 24) (tokens c)) := by
  unfold BT
  rw [steps_cons g h, bigSep_insert (not_mem_later g)]
  rfl

/-- The direction's own cells at ring step `g`. -/
def atF (c : Dev nD) (g : ℕ) : sProp 𝕄 :=
  iprop(here (sFC c (par g)) (g / 2) ∗ here (rFC c (par (g + 1))) (g / 2)
    ∗ here (sFC c (par (g + 1))) ((g + 1) / 2) ∗ here (rFC c (par g)) ((g + 1) / 2))
def F0 (c : Dev nD) (g : ℕ) : sProp 𝕄 := iprop(atF c g ∗ reached ER (barC (prv c)) g)
def F1 (c : Dev nD) (g : ℕ) : sProp 𝕄 :=
  iprop(atF c g ∗ tokF c g ∗ slotAny cmF (nxt c) (par (g + 1)) ∗ reached ER (rFC (nxt c) (par (g + 1))) (g / 2) ∗ reached ER (barC c) (g + 1))
def F2 (c : Dev nD) (g : ℕ) : sProp 𝕄 :=
  iprop(atF c g ∗ cred (tallyAt (sFC c (par g)) 0 N) ∗ cred (tallyAt (rFC c (par (g + 1))) (g + 1) N))

/-- The direction's own cells at ring step `g`. -/
def atB (c : Dev nD) (g : ℕ) : sProp 𝕄 :=
  iprop(here (sBC c (par g)) (g / 2) ∗ here (rBC c (par (g + 1))) (g / 2)
    ∗ here (sBC c (par (g + 1))) ((g + 1) / 2) ∗ here (rBC c (par g)) ((g + 1) / 2))
def B0 (c : Dev nD) (g : ℕ) : sProp 𝕄 := iprop(atB c g ∗ reached ER (barC (nxt c)) g)
def B1 (c : Dev nD) (g : ℕ) : sProp 𝕄 :=
  iprop(atB c g ∗ tokB c g ∗ slotAny cmB (prv c) (par (g + 1)) ∗ reached ER (rBC (prv c) (par (g + 1))) (g / 2) ∗ reached ER (barC c) (g + 1))
def B2 (c : Dev nD) (g : ℕ) : sProp 𝕄 :=
  iprop(atB c g ∗ cred (tallyAt (sBC c (par g)) 0 N) ∗ cred (tallyAt (rBC c (par (g + 1))) (g + 1) N))

/-! ## The handshake -/

set_option maxHeartbeats 800000 in
theorem handshake_spec (c : Dev nD) (g : ℕ) (hg : g < 24) (l : Fin 2) (hl : l = par (g + 1)) (Kt : PUnit → sProp 𝕄) :
    iprop(env m K ∗ owesE c (ow c g) ∗ BT c g ∗ F0 c g ∗ B0 c g ∗ slotAny cmF c l ∗ slotAny cmB c l
        ∗ (owesE c (owH c g) -∗ BT c (g + 1) -∗ F1 c g -∗ B1 c g -∗ Kt ⟨⟩))
      ⊢ runs c (handshake c) Kt := by
  subst hl
  unfold runs handshake
  simp only [semSignalWord, semWaitWord, Prog.lift, Prog.bind_op, Prog.bind_ret, Prog.pure_eq_ret]
  rw [BT_step c g hg]
  unfold owesE F0 B0 F1 B1 atF atB tokens tokBar here
  iintro ⟨#HE, ⟨%W, HO⟩, ⟨⟨HaB, #HrB⟩, ⟨⟨HtP, HtN, HcB⟩, HtkF, HtkB⟩, Hfut⟩, ⟨⟨Hf1, ⟨Hf2, #HfR⟩, Hf3⟩, #HrP⟩, ⟨⟨Hb1, ⟨Hb2, #HbR⟩, Hb3⟩, #HrN⟩, HsF, HsB, Hk⟩
  simp only [left_eq c, right_eq c]
  rw [ow_step c g hg]
  -- the signal to the left: the forward slot the left neighbour copies into
  iapply (Rounds.wp_signal 𝒱₀ ER (Rd m) (c : Thread nD τ) none (dst := (prv c : Thread nD τ)) (κ := K (prv c, none)) (r := g)
      (d := true) (by rw [duties_bar m _ _ hg]; exact Finset.mem_univ _) ((amount_bar m (prv c) g true).trans (by decide)) (g + 1)
      (owH c g + tallyAt (barC (nxt c)) (g + 1) 1) rfl) $$ [HO HtP HsF]
  · isplitr; · iapply (inv_at m K (prv c, none)); iexact HE
    isplitl [HO]; · iexact HO
    isplitl [HtP]; · iexact HtP
    isplitl [HsF]
    · rw [payload_bar_true, nxt_prv]
      isplitl [HsF]; · iexact HsF
      iexact HfR
    iexact HrP
  iintro HO
  -- the signal to the right: the backward slot the right neighbour copies into
  iapply (Rounds.wp_signal 𝒱₀ ER (Rd m) (c : Thread nD τ) none (dst := (nxt c : Thread nD τ)) (κ := K (nxt c, none)) (r := g)
      (d := false) (by rw [duties_bar m _ _ hg]; exact Finset.mem_univ _) ((amount_bar m (nxt c) g false).trans (by decide)) (g + 1)
      (owH c g) rfl) $$ [HO HtN HsB]
  · isplitr; · iapply (inv_at m K (nxt c, none)); iexact HE
    isplitl [HO]; · iexact HO
    isplitl [HtN]; · iexact HtN
    isplitl [HsB]
    · rw [payload_bar_false, prv_nxt]
      isplitl [HsB]; · iexact HsB
      iexact HbR
    iexact HrN
  iintro HO
  -- the wait for both
  iapply (Rounds.wp_wait_rest_token 𝒱₀ ER (Rd m) (c : Thread nD τ) none (κ := K (c, none))
      (wpE_semWait_eq 𝒱₀ (c : Thread nD τ) none Set.univ) (Set.mem_univ _) (g + 1) (O := owH c g) (W := W) (R := g) (m := 0) (T := ∅)
      (by rw [expect_bar m c g hg]; decide)) $$ [HcB HO HaB]
  · isplitr; · iapply (inv_at m K (c, none)); iexact HE
    isplitl [HcB]; · iexact HcB
    isplitl [HO]; · iexact HO
    isplitr; · iapply (mayWait_bar c g hg); iapply (lev_at m K); iexact HE
    iexact HaB
  iintro ⟨HO, HaB, #HrB', Hpay⟩
  ihave Hp := (Entails.of_eq (rest_bar m c g hg)) $$ Hpay
  icases Hp with ⟨⟨HsB, #HbR'⟩, HsF, #HfR'⟩
  rw [wp_ret]; imodintro
  iapply Hk $$ [HO] [HaB Hfut] [Hf1 Hf2 Hf3 HtkF HsF] [Hb1 Hb2 Hb3 HtkB HsB]
  · iexists _; iexact HO
  · unfold BT here
    isplitl [HaB]
    · isplitl [HaB]; · iexact HaB
      iexact HrB'
    iexact Hfut
  · isplitl [Hf1 Hf2 Hf3]
    · isplitl [Hf1]; · iexact Hf1
      isplitl [Hf2]
      · isplitl [Hf2]; · iexact Hf2
        iexact HfR
      iexact Hf3
    isplitl [HtkF]; · iexact HtkF
    isplitl [HsF]; · iexact HsF
    isplitr; · iexact HfR'
    iexact HrB'
  · isplitl [Hb1 Hb2 Hb3]
    · isplitl [Hb1]; · iexact Hb1
      isplitl [Hb2]
      · isplitl [Hb2]; · iexact Hb2
        iexact HbR
      iexact Hb3
    isplitl [HtkB]; · iexact HtkB
    isplitl [HsB]; · iexact HsB
    isplitr; · iexact HbR'
    iexact HrB'

/-! ## The copies -/

omit [FloatOps F] in
theorem credit_F (k : Fin 2) : (slot cmF k).view.dmaCredit = N := rfl

set_option maxHeartbeats 800000 in
theorem wp_sendF (c n : Dev nD) (hn : n = nxt c) (g : ℕ) (hg : g < 24) (O : CellTallies nD τ sig ℕ)
    {hsc : (slot cmF (par (g + 1)) : Memref sig (Dev.tc n : Thread nD τ).2.kind .vmem S1024x1024 .f32).view.ref.isScScratch = false}
    {hsrc : (slot cmF (par g)).view.WordExact} {hdst : (slot cmF (par (g + 1)) : Memref sig (Dev.tc n : Thread nD τ).2.kind .vmem S1024x1024 .f32).view.WordExact}
    {hsem : DmaTarget.Typed .vmem (.dma (rsF (par (g + 1)))) (.remote (Dev.tc n : Thread nD τ) (slot cmF (par (g + 1))) (.dma (ssF (par g))) hsc)}
    {α : Type} {Q : α → sProp 𝕄} (k : PUnit → Prog (TpuEff nD τ sig (Elt F) Λ₀ .tc) α) :
    iprop(env m K ∗ owesE c (O + tallyAt (rFC (nxt c) (par (g + 1))) (g + 1) N) ∗ F1 c g ∗ slotIs cmF c (par g) (gF m g c))
      ⊢ iprop((owesE c O -∗ F2 c g -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot cmF (par g)) (.remote (Dev.tc n : Thread nD τ) (slot cmF (par (g + 1))) (.dma (ssF (par g))) hsc) (.dma (rsF (par (g + 1)))) hsrc hdst hsem) k) Q) := by
  subst hn
  unfold owesE F1 F2 atF tokF here slotIs slotAny
  iintro ⟨#HE, ⟨%W, HO⟩, ⟨⟨⟨Ha1, #Hr1⟩, Hrest⟩, ⟨Ht1, Ht2, Hc⟩, ⟨%fd, Hd⟩, #HrR, #HrB⟩, ⟨%fs, %hfs, Hs⟩⟩ Hk
  have hw : (slot cmF (par (g + 1))).view.read (Elt F) ((slot cmF (par (g + 1))).view.write (Elt F) fd ((slot cmF (par g)).view.read (Elt F) fs) Finset.univ) = gF m g c := by
    rw [View.read_write_univ, hfs]
  iapply (Rounds.wp_send_pointsTo_with 𝒱₀ ER (Rd m) (c : Thread nD τ) none (κ₁ := K (c, some (0, par g))) (κ₂ := K (nxt c, some (1, par (g + 1))))
    (c' := (nxt c : Thread nD τ)) (src := slot cmF (par g)) (dst := slot cmF (par (g + 1))) (sS := .dma (ssF (par g))) (sem := .dma (rsF (par (g + 1))))
    (r₁ := g / 2) (r₂ := g / 2) (d₁ := false) (d₂ := false) (fd := fd) (fs := fs) (F := reached ER (barC c) (g + 1))
    (by rw [duties_sF m c (par g) (g / 2) (by omega)]; exact Finset.mem_singleton_self _)
    (by rw [duties_rF m (nxt c) (par (g + 1)) (g / 2) (by omega)]; exact Finset.mem_singleton_self _)
    (g + 1) 0 N (credit_F _) (amount_sF m c _ _ false) (amount_rF m (nxt c) _ _ false) O rfl (W := W)
    (by
      rw [payload_sF]; unfold slotAny
      iintro H
      iexists fs; iexact H)
    (by
      rw [payload_rF, prv_nxt]; unfold slotIs
      iintro ⟨Hd, Hr⟩
      isplitl [Hd]
      · iexists _
        isplitr; · ipureintro; exact hw
        iexact Hd
      iexact Hr)) $$ [HO Ht1 Ht2 Hd Hs]
  · isplitr; · iapply (inv_at m K (c, some (0, par g))); iexact HE
    isplitr; · iapply (inv_at m K (nxt c, some (1, par (g + 1)))); iexact HE
    isplitl [Hs]; · iexact Hs
    isplitl [Hd]
    · isplitl [Hd]; · iexact Hd
      iexact HrB
    isplitl [HO]; · iexact HO
    isplitl [Ht1]; · iexact Ht1
    isplitr; · iexact Hr1
    isplitl [Ht2]; · iexact Ht2
    iexact HrR
  iintro ⟨Hcs, HO⟩
  iapply Hk $$ [HO] [Ha1 Hrest Hc Hcs]
  · iexists W; iexact HO
  isplitl [Ha1 Hrest]
  · isplitl [Ha1]
    · isplitl [Ha1]; · iexact Ha1
      iexact Hr1
    iexact Hrest
  isplitl [Hcs]; · iexact Hcs
  iexact Hc

omit [FloatOps F] in
theorem credit_B (k : Fin 2) : (slot cmB k).view.dmaCredit = N := rfl

set_option maxHeartbeats 800000 in
theorem wp_sendB (c n : Dev nD) (hn : n = prv c) (g : ℕ) (hg : g < 24) (O : CellTallies nD τ sig ℕ)
    {hsc : (slot cmB (par (g + 1)) : Memref sig (Dev.tc n : Thread nD τ).2.kind .vmem S1024x1024 .f32).view.ref.isScScratch = false}
    {hsrc : (slot cmB (par g)).view.WordExact} {hdst : (slot cmB (par (g + 1)) : Memref sig (Dev.tc n : Thread nD τ).2.kind .vmem S1024x1024 .f32).view.WordExact}
    {hsem : DmaTarget.Typed .vmem (.dma (rsB (par (g + 1)))) (.remote (Dev.tc n : Thread nD τ) (slot cmB (par (g + 1))) (.dma (ssB (par g))) hsc)}
    {α : Type} {Q : α → sProp 𝕄} (k : PUnit → Prog (TpuEff nD τ sig (Elt F) Λ₀ .tc) α) :
    iprop(env m K ∗ owesE c (O + tallyAt (rBC (prv c) (par (g + 1))) (g + 1) N) ∗ B1 c g ∗ slotIs cmB c (par g) (gB m g c))
      ⊢ iprop((owesE c O -∗ B2 c g -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot cmB (par g)) (.remote (Dev.tc n : Thread nD τ) (slot cmB (par (g + 1))) (.dma (ssB (par g))) hsc) (.dma (rsB (par (g + 1)))) hsrc hdst hsem) k) Q) := by
  subst hn
  unfold owesE B1 B2 atB tokB here slotIs slotAny
  iintro ⟨#HE, ⟨%W, HO⟩, ⟨⟨⟨Ha1, #Hr1⟩, Hrest⟩, ⟨Ht1, Ht2, Hc⟩, ⟨%fd, Hd⟩, #HrR, #HrB⟩, ⟨%fs, %hfs, Hs⟩⟩ Hk
  have hw : (slot cmB (par (g + 1))).view.read (Elt F) ((slot cmB (par (g + 1))).view.write (Elt F) fd ((slot cmB (par g)).view.read (Elt F) fs) Finset.univ) = gB m g c := by
    rw [View.read_write_univ, hfs]
  iapply (Rounds.wp_send_pointsTo_with 𝒱₀ ER (Rd m) (c : Thread nD τ) none (κ₁ := K (c, some (2, par g))) (κ₂ := K (prv c, some (3, par (g + 1))))
    (c' := (prv c : Thread nD τ)) (src := slot cmB (par g)) (dst := slot cmB (par (g + 1))) (sS := .dma (ssB (par g))) (sem := .dma (rsB (par (g + 1))))
    (r₁ := g / 2) (r₂ := g / 2) (d₁ := false) (d₂ := false) (fd := fd) (fs := fs) (F := reached ER (barC c) (g + 1))
    (by rw [duties_sB m c (par g) (g / 2) (by omega)]; exact Finset.mem_singleton_self _)
    (by rw [duties_rB m (prv c) (par (g + 1)) (g / 2) (by omega)]; exact Finset.mem_singleton_self _)
    (g + 1) 0 N (credit_B _) (amount_sB m c _ _ false) (amount_rB m (prv c) _ _ false) O rfl (W := W)
    (by
      rw [payload_sB]; unfold slotAny
      iintro H
      iexists fs; iexact H)
    (by
      rw [payload_rB, nxt_prv]; unfold slotIs
      iintro ⟨Hd, Hr⟩
      isplitl [Hd]
      · iexists _
        isplitr; · ipureintro; exact hw
        iexact Hd
      iexact Hr)) $$ [HO Ht1 Ht2 Hd Hs]
  · isplitr; · iapply (inv_at m K (c, some (2, par g))); iexact HE
    isplitr; · iapply (inv_at m K (prv c, some (3, par (g + 1)))); iexact HE
    isplitl [Hs]; · iexact Hs
    isplitl [Hd]
    · isplitl [Hd]; · iexact Hd
      iexact HrB
    isplitl [HO]; · iexact HO
    isplitl [Ht1]; · iexact Ht1
    isplitr; · iexact Hr1
    isplitl [Ht2]; · iexact Ht2
    iexact HrR
  iintro ⟨Hcs, HO⟩
  iapply Hk $$ [HO] [Ha1 Hrest Hc Hcs]
  · iexists W; iexact HO
  isplitl [Ha1 Hrest]
  · isplitl [Ha1]
    · isplitl [Ha1]; · iexact Ha1
      iexact Hr1
    iexact Hrest
  isplitl [Hcs]; · iexact Hcs
  iexact Hc

theorem sends_spec (c : Dev nD) (g : ℕ) (hg : g < 24) (k l : Fin 2) (hk : k = par g) (hl : l = par (g + 1)) (Kt : PUnit → sProp 𝕄) :
    iprop(env m K ∗ owesE c (owH c g) ∗ F1 c g ∗ B1 c g ∗ slotIs cmF c k (gF m g c) ∗ slotIs cmB c k (gB m g c)
        ∗ (owesE c (ow c (g + 1)) -∗ F2 c g -∗ B2 c g -∗ Kt ⟨⟩))
      ⊢ runs c (sends c k l) Kt := by
  subst hk hl
  unfold runs sends
  simp only [Prog.lift, Prog.bind_op, Prog.bind_ret, Prog.pure_eq_ret]
  iintro ⟨#HE, HO, HF, HB, HsF, HsB, Hk⟩
  rw [show owH c g = ow c (g + 1) + tallyAt (rBC (prv c) (par (g + 1))) (g + 1) N + tallyAt (rFC (nxt c) (par (g + 1))) (g + 1) N by
    unfold owH owX; rw [add_assoc]]
  iapply (wp_sendF m K c _ (right_eq' c) g hg _) $$ [HO HF HsF]
  · isplitr; · iexact HE
    isplitl [HO]; · iexact HO
    isplitl [HF]; · iexact HF
    iexact HsF
  iintro HO HF
  iapply (wp_sendB m K c _ (left_eq' c) g hg _) $$ [HO HB HsB]
  · isplitr; · iexact HE
    isplitl [HO]; · iexact HO
    isplitl [HB]; · iexact HB
    iexact HsB
  iintro HO HB
  rw [wp_ret]; imodintro
  iapply Hk $$ HO HF HB

/-! ## The waits -/

set_option maxHeartbeats 800000 in
theorem waitF_spec (c : Dev nD) (g : ℕ) (hg : g < 24) (k l : Fin 2) (hk : k = par g) (hl : l = par (g + 1)) (Kt : PUnit → sProp 𝕄) :
    iprop(env m K ∗ owesE c (ow c (g + 1)) ∗ F2 c g
        ∗ (owesE c (ow c (g + 1)) -∗ F0 c (g + 1) -∗ slotAny cmF c k -∗ slotIs cmF c l (gF m g (prv c)) -∗ Kt ⟨⟩))
      ⊢ runs c (waitF k l) Kt := by
  subst hk hl
  unfold runs waitF
  simp only [Prog.lift, Prog.bind_op, Prog.bind_ret, Prog.pure_eq_ret]
  unfold owesE F2 F0 atF here
  iintro ⟨#HE, ⟨%W, HO⟩, ⟨⟨⟨Ha1, -⟩, ⟨Ha2, -⟩, Ha3, Ha4⟩, HcS, HcR⟩, Hk⟩
  iapply (Rounds.wp_wait_rest_token 𝒱₀ ER (Rd m) (c : Thread nD τ) none (κ := K (c, some (0, par g)))
      (wpE_waitDma2_eq 𝒱₀ (c : Thread nD τ) none Set.univ) (Set.mem_univ _) 0 (O := ow c (g + 1)) (W := W) (R := g / 2) (m := 0) (T := ∅)
      (by rw [Nat.zero_add, expect_sF m c (par g) (g / 2) (by omega)]; exact credit_F _)) $$ [HcS HO Ha1]
  · isplitr; · iapply (inv_at m K (c, some (0, par g))); iexact HE
    isplitl [HcS]; · iexact HcS
    isplitl [HO]; · iexact HO
    isplitr; · iapply (mayWait_local c _ (from_ow c (g + 1) 0 (Nat.zero_le _))); iapply (lev_at m K); iexact HE
    iexact Ha1
  iintro ⟨HO, Ha1, #Hr1, Hpay⟩
  ihave HsA := (Entails.of_eq (rest_sF m c (par g) (g / 2) (by omega))) $$ Hpay
  iapply (Rounds.wp_wait_rest_token 𝒱₀ ER (Rd m) (c : Thread nD τ) none (κ := K (c, some (1, par (g + 1))))
      (wpE_waitDma2_eq 𝒱₀ (c : Thread nD τ) none Set.univ) (Set.mem_univ _) (g + 1) (O := ow c (g + 1)) (R := g / 2) (m := 0) (T := ∅)
      (by rw [Nat.zero_add, expect_rF m c (par (g + 1)) (g / 2) (by omega)]; exact credit_F _)) $$ [HcR HO Ha2]
  · isplitr; · iapply (inv_at m K (c, some (1, par (g + 1)))); iexact HE
    isplitl [HcR]; · iexact HcR
    isplitl [HO]; · iexact HO
    isplitr; · iapply (mayWait_recv c _ g hg); iapply (lev_at m K); iexact HE
    iexact Ha2
  iintro ⟨HO, Ha2, #Hr2, Hpay⟩
  ihave Hp := (Entails.of_eq (rest_rF m c g hg)) $$ Hpay
  icases Hp with ⟨HsI, #HrB⟩
  rw [wp_ret]; imodintro
  iapply Hk $$ [HO] [Ha1 Ha2 Ha3 Ha4] [HsA] [HsI]
  · iexists _; iexact HO
  · have h2 : (g + 1 + 1) / 2 = g / 2 + 1 := by omega
    have hp : par (g + 1 + 1) = par g := Fin.ext (by show (g + 1 + 1) % 2 = g % 2; omega)
    rw [h2, hp]
    isplitl [Ha1 Ha2 Ha3 Ha4]
    · isplitl [Ha3]; · iexact Ha3
      isplitl [Ha4]; · iexact Ha4
      isplitl [Ha1]
      · isplitl [Ha1]; · iexact Ha1
        iexact Hr1
      isplitl [Ha2]; · iexact Ha2
      iexact Hr2
    iexact HrB
  · iexact HsA
  · iexact HsI

set_option maxHeartbeats 800000 in
theorem waitB_spec (c : Dev nD) (g : ℕ) (hg : g < 24) (k l : Fin 2) (hk : k = par g) (hl : l = par (g + 1)) (Kt : PUnit → sProp 𝕄) :
    iprop(env m K ∗ owesE c (ow c (g + 1)) ∗ B2 c g
        ∗ (owesE c (ow c (g + 1)) -∗ B0 c (g + 1) -∗ slotAny cmB c k -∗ slotIs cmB c l (gB m g (nxt c)) -∗ Kt ⟨⟩))
      ⊢ runs c (waitB k l) Kt := by
  subst hk hl
  unfold runs waitB
  simp only [Prog.lift, Prog.bind_op, Prog.bind_ret, Prog.pure_eq_ret]
  unfold owesE B2 B0 atB here
  iintro ⟨#HE, ⟨%W, HO⟩, ⟨⟨⟨Ha1, -⟩, ⟨Ha2, -⟩, Ha3, Ha4⟩, HcS, HcR⟩, Hk⟩
  iapply (Rounds.wp_wait_rest_token 𝒱₀ ER (Rd m) (c : Thread nD τ) none (κ := K (c, some (2, par g)))
      (wpE_waitDma2_eq 𝒱₀ (c : Thread nD τ) none Set.univ) (Set.mem_univ _) 0 (O := ow c (g + 1)) (W := W) (R := g / 2) (m := 0) (T := ∅)
      (by rw [Nat.zero_add, expect_sB m c (par g) (g / 2) (by omega)]; exact credit_B _)) $$ [HcS HO Ha1]
  · isplitr; · iapply (inv_at m K (c, some (2, par g))); iexact HE
    isplitl [HcS]; · iexact HcS
    isplitl [HO]; · iexact HO
    isplitr; · iapply (mayWait_local c _ (from_ow c (g + 1) 0 (Nat.zero_le _))); iapply (lev_at m K); iexact HE
    iexact Ha1
  iintro ⟨HO, Ha1, #Hr1, Hpay⟩
  ihave HsA := (Entails.of_eq (rest_sB m c (par g) (g / 2) (by omega))) $$ Hpay
  iapply (Rounds.wp_wait_rest_token 𝒱₀ ER (Rd m) (c : Thread nD τ) none (κ := K (c, some (3, par (g + 1))))
      (wpE_waitDma2_eq 𝒱₀ (c : Thread nD τ) none Set.univ) (Set.mem_univ _) (g + 1) (O := ow c (g + 1)) (R := g / 2) (m := 0) (T := ∅)
      (by rw [Nat.zero_add, expect_rB m c (par (g + 1)) (g / 2) (by omega)]; exact credit_B _)) $$ [HcR HO Ha2]
  · isplitr; · iapply (inv_at m K (c, some (3, par (g + 1)))); iexact HE
    isplitl [HcR]; · iexact HcR
    isplitl [HO]; · iexact HO
    isplitr; · iapply (mayWait_recv c _ g hg); iapply (lev_at m K); iexact HE
    iexact Ha2
  iintro ⟨HO, Ha2, #Hr2, Hpay⟩
  ihave Hp := (Entails.of_eq (rest_rB m c g hg)) $$ Hpay
  icases Hp with ⟨HsI, #HrB⟩
  rw [wp_ret]; imodintro
  iapply Hk $$ [HO] [Ha1 Ha2 Ha3 Ha4] [HsA] [HsI]
  · iexists _; iexact HO
  · have h2 : (g + 1 + 1) / 2 = g / 2 + 1 := by omega
    have hp : par (g + 1 + 1) = par g := Fin.ext (by show (g + 1 + 1) % 2 = g % 2; omega)
    rw [h2, hp]
    isplitl [Ha1 Ha2 Ha3 Ha4]
    · isplitl [Ha3]; · iexact Ha3
      isplitl [Ha4]; · iexact Ha4
      isplitl [Ha1]
      · isplitl [Ha1]; · iexact Ha1
        iexact Hr1
      isplitl [Ha2]; · iexact Ha2
      iexact Hr2
    iexact HrB
  · iexact HsA
  · iexact HsI

end Cert.RingProof

end
-- ==== Proof.Local.lean ====
/-
What a device does by itself between the ring's statements: the copies of input windows into its
buffers, the two products of a reduce-scatter step, the accumulation into a slot, the first products of a
pass, and the copies of finished blocks into its result.
-/
module

public import proofs.«01_k».proof.Proof.Ring
public import Idealize.ShloMosaic.Lib.Pipeline.Value

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig ℕ (Elt F) ℕ UU ℕ

variable (m : (ℓ : Loc nD τ sig) → Buf (Elt F) ℓ) (K : Dev nD × CI → ℕ)

/-! ## Buffers -/

section Buf
variable {sp : Space}

/-- The elements of device `c` under a 1024 × 1024 window, at some contents; -/
def bufAny (M : Memref sig .tc sp S1024x1024 .f32) (c : Dev nD) : sProp 𝕄 :=
  iprop(∃ f, (M.view.loc (c : Thread nD τ) ↦[M.view.set]{fullShare} f))
/-- at contents the window reads as `X`. -/
def bufIs (M : Memref sig .tc sp S1024x1024 .f32) (c : Dev nD) (X : Vec F S1024x1024 .f32) : sProp 𝕄 :=
  iprop(∃ f, ⌜M.view.read (Elt F) f = X⌝ ∗ (M.view.loc (c : Thread nD τ) ↦[M.view.set]{fullShare} f))

omit [FloatOps F] in
theorem bufIs_any (M : Memref sig .tc sp S1024x1024 .f32) (c : Dev nD) (X : Vec F S1024x1024 .f32) : bufIs (F := F) M c X ⊢ bufAny M c := by
  unfold bufIs bufAny
  iintro ⟨%f, -, H⟩
  iexists f; iexact H
end Buf

omit [FloatOps F] in
theorem slotIs_eq (M : Memref sig .tc .vmem S2x1024x1024 .f32) (c : Dev nD) (k : Fin 2) (X : Vec F S1024x1024 .f32) : slotIs (F := F) M c k X = bufIs (slot M k) c X := rfl
omit [FloatOps F] in
theorem slotAny_eq (M : Memref sig .tc .vmem S2x1024x1024 .f32) (c : Dev nD) (k : Fin 2) : slotAny (F := F) M c k = bufAny (slot M k) c := rfl

/-- The rectangle of a whole tile. -/
abbrev r0 : Rect S1024x1024 := Rect.unit (s := S1024x1024) ![0, 0] S1024x1024.size inb_S1024x1024_S1024x1024_0_0

theorem r0_idx (x : S1024x1024.Idx) : r0.toLoadRect.idx x = x := by
  funext a
  apply Fin.ext
  fin_cases a <;> simp [r0, LoadRect.idx, Rect.toLoadRect, Rect.unit]

omit [FloatOps F] in
/-- Loading a whole tile reads it, -/
theorem readAt_r0 (M : Memref sig .tc .vmem S1024x1024 .f32) (f : M.view.ty.Contents (Elt F)) :
    M.view.readAt (Elt F) r0.toLoadRect f = M.view.read (Elt F) f :=
  funext fun x => by rw [View.readAt_apply, r0_idx]
omit [FloatOps F] in
/-- storing one replaces it. -/
theorem read_write_r0 (M : Memref sig .tc .vmem S1024x1024 .f32) (f : M.view.ty.Contents (Elt F)) (v : Vec F S1024x1024 .f32) :
    M.view.read (Elt F) ((M.access r0).write (Elt F) f v Finset.univ) = v := by
  rw [← readAt_r0 M]
  exact View.read_write_univ (v := M.access r0) f v

omit [FloatOps F] in
/-- A slot reads what a load of it does, the unit axis dropped. -/
theorem read_slot (M : Memref sig .tc .vmem S2x1024x1024 .f32) (k : Fin 2) (f : M.view.ty.Contents (Elt F)) :
    (slot M k).view.read (Elt F) f = shapeCast S1024x1024 (M.view.readAt (Elt F) (slotR k).toLoadRect f) shapeCasts_S1x1024x1024_S1024x1024 := rfl
omit [FloatOps F] in
/-- A slot stored into reads what was stored. -/
theorem read_slot_write (M : Memref sig .tc .vmem S2x1024x1024 .f32) (k : Fin 2) (f : M.view.ty.Contents (Elt F)) (v : Vec F S1x1024x1024 .f32) :
    (slot M k).view.read (Elt F) ((M.access (slotR k)).write (Elt F) f v Finset.univ) = shapeCast S1024x1024 v shapeCasts_S1x1024x1024_S1024x1024 := by
  rw [read_slot]
  exact congrArg (fun w => shapeCast S1024x1024 w shapeCasts_S1x1024x1024_S1024x1024) (View.read_write_univ (v := M.access (slotR k)) f v)

theorem slot_set (M : Memref sig .tc .vmem S2x1024x1024 .f32) (k : Fin 2) : (slot M k).view.set = (M.access (slotR k)).set :=
  Memref.set_view_squeeze _ _

/-- The kernel's three forms of the product, and its accumulation. -/
theorem pay3_eq (a b : Vec F S1024x1024 .f32) : k0_pay3 a b = dotT a b := by
  unfold k0_pay3 dotT k0_pay7
  exact shapeCast_self _ _
theorem pay1_eq (a b : Vec F S1024x1024 .f32) : shapeCast S1024x1024 (k0_pay1 a b) shapeCasts_S1x1024x1024_S1024x1024 = dotT a b := by
  unfold k0_pay1 dotT k0_pay7
  exact shapeCast_shapeCast _ _ _
theorem pay5_eq (v : Vec F S1x1024x1024 .f32) (b : Vec F S1024x1024 .f32) :
    shapeCast S1024x1024 (k0_pay5 v b) shapeCasts_S1x1024x1024_S1024x1024 = addT (shapeCast S1024x1024 v shapeCasts_S1x1024x1024_S1024x1024) b := by
  unfold k0_pay5 addT
  exact shapeCast_shapeCast _ _ _

/-! ## Loads and stores of tiles -/

section Acc
variable {α : Type}

theorem wp_ldT {Q : α → sProp 𝕄} (c : Dev nD) (M : Memref sig .tc .vmem S1024x1024 .f32) (X : Vec F S1024x1024 .f32) {hl : M.view.LoadsAt r0.toLoadRect}
    (k : Vec F S1024x1024 .f32 → Prog (TpuEff nD τ sig (Elt F) Λ₀ .tc) α) :
    bufIs M c X ⊢ iprop((bufIs M c X -∗ wp frame (wpE (defs₀ (F := F)) 𝒱₀ (c : Thread nD τ) none) Set.univ (k X) Q)
      -∗ wp frame (wpE (defs₀ (F := F)) 𝒱₀ (c : Thread nD τ) none) Set.univ (.op (.load M r0.toLoadRect hl) k) Q) := by
  unfold bufIs
  iintro ⟨%f, %hf, H⟩ Hk
  iapply (wp_load 𝒱₀ (c : Thread nD τ) none Set.univ (m := M) (r := r0.toLoadRect) (M.view.setOn_subset_set _)) $$ H
  iintro H
  rw [readAt_r0, hf]
  iapply Hk
  iexists f
  isplitr; · ipureintro; exact hf
  iexact H

theorem wp_ldAny {Q : α → sProp 𝕄} (c : Dev nD) (M : Memref sig .tc .vmem S1024x1024 .f32) {hl : M.view.LoadsAt r0.toLoadRect}
    (k : Vec F S1024x1024 .f32 → Prog (TpuEff nD τ sig (Elt F) Λ₀ .tc) α) :
    bufAny M c ⊢ iprop((∀ X, bufAny M c -∗ wp frame (wpE (defs₀ (F := F)) 𝒱₀ (c : Thread nD τ) none) Set.univ (k X) Q)
      -∗ wp frame (wpE (defs₀ (F := F)) 𝒱₀ (c : Thread nD τ) none) Set.univ (.op (.load M r0.toLoadRect hl) k) Q) := by
  unfold bufAny
  iintro ⟨%f, H⟩ Hk
  iapply (wp_load 𝒱₀ (c : Thread nD τ) none Set.univ (m := M) (r := r0.toLoadRect) (M.view.setOn_subset_set _)) $$ H
  iintro H
  iapply Hk
  iexists f
  iexact H

theorem wp_stT {Q : α → sProp 𝕄} (c : Dev nD) (M : Memref sig .tc .vmem S1024x1024 .f32) (v : Vec F S1024x1024 .f32) {hx : (M.access r0).Stores Finset.univ}
    {hm : (Finset.univ : Finset r0.shape.Idx) = Finset.univ ∨ ∀ a, r0.stride a = 1} (k : PUnit → Prog (TpuEff nD τ sig (Elt F) Λ₀ .tc) α) :
    bufAny M c ⊢ iprop((bufIs M c v -∗ wp frame (wpE (defs₀ (F := F)) 𝒱₀ (c : Thread nD τ) none) Set.univ (k ⟨⟩) Q)
      -∗ wp frame (wpE (defs₀ (F := F)) 𝒱₀ (c : Thread nD τ) none) Set.univ (.op (.store M r0 v Finset.univ hx hm) k) Q) := by
  unfold bufAny bufIs
  iintro ⟨%f, H⟩ Hk
  iapply (wp_store 𝒱₀ (c : Thread nD τ) none Set.univ (m := M) (r := r0) (Mk := Finset.univ) (M.view.set_slice_subset r0)) $$ H
  iintro H
  iapply Hk
  iexists _
  isplitr; · ipureintro; exact read_write_r0 M f v
  iexact H

/-- A slot's load, and what the slot keeps. -/
theorem wp_ldS {Q : α → sProp 𝕄} (c : Dev nD) (M : Memref sig .tc .vmem S2x1024x1024 .f32) (j : Fin 2) (X : Vec F S1024x1024 .f32) {hl : M.view.LoadsAt (slotR j).toLoadRect}
    (k : Vec F S1x1024x1024 .f32 → Prog (TpuEff nD τ sig (Elt F) Λ₀ .tc) α) :
    slotIs M c j X ⊢ iprop((∀ v, ⌜shapeCast S1024x1024 v shapeCasts_S1x1024x1024_S1024x1024 = X⌝ -∗ slotIs M c j X -∗ wp frame (wpE (defs₀ (F := F)) 𝒱₀ (c : Thread nD τ) none) Set.univ (k v) Q)
      -∗ wp frame (wpE (defs₀ (F := F)) 𝒱₀ (c : Thread nD τ) none) Set.univ (.op (.load M (slotR j).toLoadRect hl) k) Q) := by
  unfold slotIs
  iintro ⟨%f, %hf, H⟩ Hk
  iapply (wp_load_rect 𝒱₀ (c : Thread nD τ) none Set.univ (m := M) (r := slotR j) (S := (slot M j).view.set) (Finset.Subset.trans (Finset.subset_of_eq (slot_set M j).symm) (Finset.Subset.refl _))) $$ H
  iintro H
  iapply Hk
  · ipureintro; exact hf
  iexists f
  isplitr; · ipureintro; exact hf
  iexact H

theorem wp_ldSAny {Q : α → sProp 𝕄} (c : Dev nD) (M : Memref sig .tc .vmem S2x1024x1024 .f32) (j : Fin 2) {hl : M.view.LoadsAt (slotR j).toLoadRect}
    (k : Vec F S1x1024x1024 .f32 → Prog (TpuEff nD τ sig (Elt F) Λ₀ .tc) α) :
    slotAny M c j ⊢ iprop((∀ v, slotAny M c j -∗ wp frame (wpE (defs₀ (F := F)) 𝒱₀ (c : Thread nD τ) none) Set.univ (k v) Q)
      -∗ wp frame (wpE (defs₀ (F := F)) 𝒱₀ (c : Thread nD τ) none) Set.univ (.op (.load M (slotR j).toLoadRect hl) k) Q) := by
  unfold slotAny
  iintro ⟨%f, H⟩ Hk
  iapply (wp_load_rect 𝒱₀ (c : Thread nD τ) none Set.univ (m := M) (r := slotR j) (S := (slot M j).view.set) (Finset.Subset.trans (Finset.subset_of_eq (slot_set M j).symm) (Finset.Subset.refl _))) $$ H
  iintro H
  iapply Hk
  iexists f
  iexact H

theorem wp_stS {Q : α → sProp 𝕄} (c : Dev nD) (M : Memref sig .tc .vmem S2x1024x1024 .f32) (j : Fin 2) (v : Vec F S1x1024x1024 .f32) {hx : (M.access (slotR j)).Stores Finset.univ}
    {hm : (Finset.univ : Finset (slotR j).shape.Idx) = Finset.univ ∨ ∀ a, (slotR j).stride a = 1} (k : PUnit → Prog (TpuEff nD τ sig (Elt F) Λ₀ .tc) α) :
    slotAny M c j ⊢ iprop((slotIs M c j (shapeCast S1024x1024 v shapeCasts_S1x1024x1024_S1024x1024) -∗ wp frame (wpE (defs₀ (F := F)) 𝒱₀ (c : Thread nD τ) none) Set.univ (k ⟨⟩) Q)
      -∗ wp frame (wpE (defs₀ (F := F)) 𝒱₀ (c : Thread nD τ) none) Set.univ (.op (.store M (slotR j) v Finset.univ hx hm) k) Q) := by
  unfold slotAny slotIs
  iintro ⟨%f, H⟩ Hk
  iapply (wp_store 𝒱₀ (c : Thread nD τ) none Set.univ (m := M) (r := slotR j) (Mk := Finset.univ) (S := (slot M j).view.set) (Finset.subset_of_eq (slot_set M j).symm)) $$ H
  iintro H
  iapply Hk
  iexists _
  isplitr; · ipureintro; exact read_slot_write M j f v
  iexact H

/-! ## Local copies -/

section Copy
variable {sp sp' : Space}

/-- A local copy under way: what it was lent of its source stays at share `q`. -/
def inFlight (c : Dev nD) (src : Memref sig .tc sp S1024x1024 .f32) (dst : Memref sig .tc sp' S1024x1024 .f32) (sm : DmaSem sig)
    (q : PosShare TreeShare) (fs : Buf (Elt F) (src.view.loc (c : Thread nD τ))) : sProp 𝕄 :=
  iprop(∃ fd, Flight EC (c : Thread nD τ) (.dma sm) 0 dst.view.dmaCredit
    iprop((dst.view.loc (c : Thread nD τ) ↦[dst.view.set]{fullShare} (dst.view.write (Elt F) fd (src.view.read (Elt F) fs) Finset.univ))
      ∗ (src.view.loc (c : Thread nD τ) ↦[src.view.set]{q} fs)))

theorem wp_copy {Q : α → sProp 𝕄} (c : Dev nD) (src : Memref sig .tc sp S1024x1024 .f32) (dst : Memref sig .tc sp' S1024x1024 .f32) (sm : DmaSem sig)
    (q : PosShare TreeShare) (fs : Buf (Elt F) (src.view.loc (c : Thread nD τ)))
    {hsrc : src.view.WordExact} {hdst : dst.view.WordExact} {hsem : DmaTarget.Typed sp (.dma sm) (.here dst : DmaTarget nD τ sig .tc sp' S1024x1024 .f32)}
    (k : PUnit → Prog (TpuEff nD τ sig (Elt F) Λ₀ .tc) α) :
    iprop((src.view.loc (c : Thread nD τ) ↦[src.view.set]{q} fs) ∗ bufAny dst c ∗ semVal ((c : Thread nD τ), .dma sm) 0)
      ⊢ iprop((inFlight c src dst sm q fs -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sm) hsrc hdst hsem) k) Q) := by
  unfold bufAny inFlight
  iintro ⟨Hs, ⟨%fd, Hd⟩, Hv⟩ Hk
  iapply (wp_dmaLocal EC 𝒱₀ (c : Thread nD τ) none (src := src) (dst := dst) (fd := fd) 0 dst.view.dmaCredit rfl
    (View.dmaCredit_pos _ (Shape.numel_pos (by decide))) (Finset.Subset.refl _)) $$ [Hs Hd Hv]
  · isplitl [Hs]; · iexact Hs
    isplitl [Hd] <;> iassumption
  iintro Hf
  iapply Hk
  iexists fd
  iexact Hf

theorem wp_copyW {Q : α → sProp 𝕄} (c : Dev nD) (src : Memref sig .tc sp S1024x1024 .f32) (dst : Memref sig .tc sp' S1024x1024 .f32) (sm : DmaSem sig)
    (q : PosShare TreeShare) (fs : Buf (Elt F) (src.view.loc (c : Thread nD τ))) {O : CellTallies nD τ sig ℕ} (hO : From 0 O)
    {hsrc : src.view.WordExact} {hdst : dst.view.WordExact}
    (k : PUnit → Prog (TpuEff nD τ sig (Elt F) Λ₀ .tc) α) :
    iprop(env m K ∗ owesE c O ∗ inFlight c src dst sm q fs)
      ⊢ iprop((owesE c O -∗ bufIs dst c (src.view.read (Elt F) fs) -∗ (src.view.loc (c : Thread nD τ) ↦[src.view.set]{q} fs) -∗ semVal ((c : Thread nD τ), .dma sm) 0
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  unfold owesE inFlight bufIs
  iintro ⟨#HE, ⟨%W, HO⟩, ⟨%fd, Hf⟩⟩ Hk
  iapply (wp_waitLocalO EC 𝒱₀ (c : Thread nD τ) none (sem := sm) (srcw := src) (dstw := dst) 0 rfl (O := O) (W := W)) $$ [Hf HO]
  · isplitl [Hf]; · iexact Hf
    isplitl [HO]; · iexact HO
    iapply (mayWait_local c sm hO); iapply (lev_at m K); iexact HE
  iintro ⟨⟨Hd, Hs⟩, Hv, HO⟩
  iapply Hk $$ [HO] [Hd] [Hs] [Hv]
  · iexists _; iexact HO
  · iexists (dst.view.write (Elt F) fd (src.view.read (Elt F) fs) Finset.univ)
    isplitr; · ipureintro; exact View.read_write_univ _ _
    iexact Hd
  · iexact Hs
  · iexact Hv

/-- The same out of an array held whole, at share `q`. -/
def inFlightOf (c : Dev nD) (src : Memref sig .tc sp S1024x1024 .f32) (dst : Memref sig .tc sp' S1024x1024 .f32) (sm : DmaSem sig)
    (q : PosShare TreeShare) (fs : Buf (Elt F) (src.view.loc (c : Thread nD τ))) : sProp 𝕄 :=
  iprop(inFlight c src dst sm q fs ∗ (src.view.loc (c : Thread nD τ) ↦[Finset.univ \ src.view.set]{q} fs))

theorem wp_copyIn {Q : α → sProp 𝕄} (c : Dev nD) (src : Memref sig .tc sp S1024x1024 .f32) (dst : Memref sig .tc sp' S1024x1024 .f32) (sm : DmaSem sig)
    (q : PosShare TreeShare) (fs : Buf (Elt F) (src.view.loc (c : Thread nD τ)))
    {hsrc : src.view.WordExact} {hdst : dst.view.WordExact} {hsem : DmaTarget.Typed sp (.dma sm) (.here dst : DmaTarget nD τ sig .tc sp' S1024x1024 .f32)}
    (k : PUnit → Prog (TpuEff nD τ sig (Elt F) Λ₀ .tc) α) :
    iprop((src.view.loc (c : Thread nD τ) ↦{q} fs) ∗ bufAny dst c ∗ semVal ((c : Thread nD τ), .dma sm) 0)
      ⊢ iprop((inFlightOf c src dst sm q fs -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sm) hsrc hdst hsem) k) Q) := by
  unfold inFlightOf
  iintro ⟨Hs, Hd, Hv⟩ Hk
  ihave Hs := (pointsTo_split_subset (Finset.subset_univ src.view.set)).1 $$ Hs
  icases Hs with ⟨Hs, Hr⟩
  iapply (wp_copy c src dst sm q fs k) $$ [Hs Hd Hv]
  · isplitl [Hs]; · iexact Hs
    isplitl [Hd] <;> iassumption
  iintro Hf
  iapply Hk
  isplitl [Hf] <;> iassumption

theorem wp_copyInW {Q : α → sProp 𝕄} (c : Dev nD) (src : Memref sig .tc sp S1024x1024 .f32) (dst : Memref sig .tc sp' S1024x1024 .f32) (sm : DmaSem sig)
    (q : PosShare TreeShare) (fs : Buf (Elt F) (src.view.loc (c : Thread nD τ))) {O : CellTallies nD τ sig ℕ} (hO : From 0 O)
    {hsrc : src.view.WordExact} {hdst : dst.view.WordExact}
    (k : PUnit → Prog (TpuEff nD τ sig (Elt F) Λ₀ .tc) α) :
    iprop(env m K ∗ owesE c O ∗ inFlightOf c src dst sm q fs)
      ⊢ iprop((owesE c O -∗ bufIs dst c (src.view.read (Elt F) fs) -∗ (src.view.loc (c : Thread nD τ) ↦{q} fs) -∗ semVal ((c : Thread nD τ), .dma sm) 0
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  unfold inFlightOf
  iintro ⟨#HE, HO, Hf, Hr⟩ Hk
  iapply (wp_copyW m K c src dst sm q fs hO k) $$ [HO Hf]
  · isplitr; · iexact HE
    isplitl [HO] <;> iassumption
  iintro HO Hd Hs Hv
  iapply Hk $$ HO Hd [Hs Hr] Hv
  iapply (pointsTo_split_subset (Finset.subset_univ src.view.set)).2
  isplitl [Hs] <;> iassumption

end Copy
end Acc

end Cert.RingProof

end
-- ==== Proof.Tile.lean ====
/-
The device's own statements, from what stands before each to what stands after it.
-/
module

public import proofs.«01_k».proof.Proof.Local

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig ℕ (Elt F) ℕ UU ℕ

variable (m : (ℓ : Loc nD τ sig) → Buf (Elt F) ℓ) (K : Dev nD × CI → ℕ)

/-! ## Products and sums -/

theorem mulTile_spec (c : Dev nD) (xc wt tp : Memref sig .tc .vmem S1024x1024 .f32) (A B : Vec F S1024x1024 .f32) (Kt : PUnit → sProp 𝕄) :
    iprop(bufIs xc c A ∗ bufIs wt c B ∗ bufAny tp c
        ∗ (bufIs xc c A -∗ bufIs wt c B -∗ bufIs tp c (dotT A B) -∗ Kt ⟨⟩))
      ⊢ runs c (mulTile xc wt tp) Kt := by
  unfold runs mulTile
  simp only [Prog.lift, Prog.bind_op, Prog.bind_ret, Prog.pure_eq_ret]
  iintro ⟨HA, HB, Ht, Hk⟩
  iapply (wp_ldT c xc A) $$ HA; iintro HA
  iapply (wp_ldT c wt B) $$ HB; iintro HB
  iapply (wp_ldAny c tp) $$ Ht; iintro %X Ht
  iapply (wp_stT c tp (k0_pay3 A B)) $$ Ht; iintro Ht
  rw [pay3_eq, wp_ret]; imodintro
  iapply Hk $$ HA HB Ht

theorem accum_spec (c : Dev nD) (M : Memref sig .tc .vmem S2x1024x1024 .f32) (tp : Memref sig .tc .vmem S1024x1024 .f32) (l : Fin 2)
    (A B : Vec F S1024x1024 .f32) (Kt : PUnit → sProp 𝕄) :
    iprop(slotIs M c l A ∗ bufIs tp c B ∗ (slotIs M c l (addT A B) -∗ bufAny tp c -∗ Kt ⟨⟩))
      ⊢ runs c (accum M tp l) Kt := by
  unfold runs accum
  simp only [Prog.lift, Prog.bind_op, Prog.bind_ret, Prog.pure_eq_ret]
  iintro ⟨HA, HB, Hk⟩
  iapply (wp_ldS c M l A) $$ HA; iintro %v %hv HA
  iapply (wp_ldT c tp B) $$ HB; iintro HB
  ihave HA := (slotIs_any M c l A) $$ HA
  iapply (wp_ldSAny c M l) $$ HA; iintro %w HA
  iapply (wp_stS c M l (k0_pay5 v B)) $$ HA; iintro HA
  rw [pay5_eq, hv, wp_ret]; imodintro
  iapply Hk $$ HA
  iapply (bufIs_any tp c B) $$ HB

theorem firstTile_spec (c : Dev nD) (wt : Memref sig .tc .vmem S1024x1024 .f32) (M : Memref sig .tc .vmem S2x1024x1024 .f32)
    (A B : Vec F S1024x1024 .f32) (Kt : PUnit → sProp 𝕄) :
    iprop(bufIs xcF c A ∗ bufIs wt c B ∗ slotAny M c 0
        ∗ (bufIs xcF c A -∗ bufIs wt c B -∗ slotIs M c 0 (dotT A B) -∗ Kt ⟨⟩))
      ⊢ runs c (firstTile wt M) Kt := by
  unfold runs firstTile
  simp only [Prog.lift, Prog.bind_op, Prog.bind_ret, Prog.pure_eq_ret]
  iintro ⟨HA, HB, Hs, Hk⟩
  iapply (wp_ldT c xcF A) $$ HA; iintro HA
  iapply (wp_ldT c wt B) $$ HB; iintro HB
  iapply (wp_ldSAny c M 0) $$ Hs; iintro %w Hs
  iapply (wp_stS c M 0 (k0_pay1 A B)) $$ Hs; iintro Hs
  rw [pay1_eq, wp_ret]; imodintro
  iapply Hk $$ HA HB Hs

/-! ## The inputs -/

/-- Both inputs, in two halves each, and the four load cells at rest. -/
def inp (c : Dev nD) : sProp 𝕄 :=
  iprop((mX.view.loc (c : Thread nD τ) ↦{fullShare.left} m ((c : Thread nD τ).loc main_arg0))
    ∗ (mX.view.loc (c : Thread nD τ) ↦{fullShare.right} m ((c : Thread nD τ).loc main_arg0))
    ∗ (mW.view.loc (c : Thread nD τ) ↦{fullShare.left} m ((c : Thread nD τ).loc main_arg1))
    ∗ (mW.view.loc (c : Thread nD τ) ↦{fullShare.right} m ((c : Thread nD τ).loc main_arg1))
    ∗ semVal ((c : Thread nD τ), .dma (ldS 0)) 0 ∗ semVal ((c : Thread nD τ), .dma (ldS 1)) 0
    ∗ semVal ((c : Thread nD τ), .dma (ldS 2)) 0 ∗ semVal ((c : Thread nD τ), .dma (ldS 3)) 0)

/-- The x window at the offsets of row block `ch` reads that block. -/
theorem xTile_read (c ch : Dev nD) (o : Fin 2 → ℕ) (h) (ho : o = ![1024 * ch.val, 0]) :
    (xTile o h).view.read (Elt F) (m ((c : Thread nD τ).loc main_arg0)) = xCh m c ch := by subst ho; rfl

theorem off1_at (c : Dev nD) : k0_off1 c = ![1024 * c.val, 0] := k0_off1_eq c
theorem off2_at (c : Dev nD) (s : Fin 3) : k0_off2 c (BitVec.ofNat 32 s.val) = ![1024 * (back c (s.val + 1)).val, 0] := by
  rw [k0_off2_eq]
  have h : (c.val + 7 - s.val) % 4 = (c.val + 3 * (s.val + 1)) % 4 := by have := s.isLt; omega
  rw [h]; rfl
theorem off3_at (c : Dev nD) (s : Fin 3) : k0_off3 c (BitVec.ofNat 32 s.val) = ![1024 * (fwd c (s.val + 1)).val, 0] := by
  rw [k0_off3_eq]; rfl

/-- The two products of reduce-scatter step `s`. -/
theorem products_spec (c : Dev nD) (s : Fin 3) (A B : Vec F S1024x1024 .f32) {O : CellTallies nD τ sig ℕ} (hO : From 0 O) (Kt : PUnit → sProp 𝕄) :
    iprop(env m K ∗ owesE c O ∗ inp m c ∗ bufIs wtF c A ∗ bufIs wtB c B ∗ bufAny xcF c ∗ bufAny xcB c ∗ bufAny tpF c ∗ bufAny tpB c
        ∗ (owesE c O -∗ inp m c -∗ bufIs wtF c A -∗ bufIs wtB c B -∗ bufAny xcF c -∗ bufAny xcB c
            -∗ bufIs tpF c (dotT (xCh m c (back c (s.val + 1))) A) -∗ bufIs tpB c (dotT (xCh m c (fwd c (s.val + 1))) B) -∗ Kt ⟨⟩))
      ⊢ runs c (products c s) Kt := by
  unfold runs products inp
  simp only [Prog.lift, Prog.bind_op, Prog.bind_ret, Prog.pure_eq_ret]
  iintro ⟨#HE, HO, ⟨HxL, HxR, HwL, HwR, Hv0, Hv1, Hv2, Hv3⟩, HA, HB, HxF, HxB, HtF, HtB, Hk⟩
  iapply (wp_copyIn c (xTile (k0_off2 c (BitVec.ofNat 32 s.val)) (k0_off2_inb c s)) xcF (ldS 2) fullShare.left (m ((c : Thread nD τ).loc main_arg0))) $$ [HxL HxF Hv2]
  · isplitl [HxL]; · iexact HxL
    isplitl [HxF] <;> iassumption
  iintro HfF
  iapply (wp_copyIn c (xTile (k0_off3 c (BitVec.ofNat 32 s.val)) (k0_off3_inb c s)) xcB (ldS 3) fullShare.right (m ((c : Thread nD τ).loc main_arg0))) $$ [HxR HxB Hv3]
  · isplitl [HxR]; · iexact HxR
    isplitl [HxB] <;> iassumption
  iintro HfB
  iapply (wp_copyInW m K c (xTile (k0_off2 c (BitVec.ofNat 32 s.val)) (k0_off2_inb c s)) xcF (ldS 2) fullShare.left (m ((c : Thread nD τ).loc main_arg0)) hO) $$ [HO HfF]
  · isplitr; · iexact HE
    isplitl [HO] <;> iassumption
  iintro HO HxF HxL Hv2
  rw [xTile_read m c _ _ _ (off2_at c s), wp_bind]
  iapply (mulTile_spec c xcF wtF tpF (xCh m c (back c (s.val + 1))) A)
  isplitl [HxF]; · iexact HxF
  isplitl [HA]; · iexact HA
  isplitl [HtF]; · iexact HtF
  iintro HxF HA HtF
  iapply (wp_copyInW m K c (xTile (k0_off3 c (BitVec.ofNat 32 s.val)) (k0_off3_inb c s)) xcB (ldS 3) fullShare.right (m ((c : Thread nD τ).loc main_arg0)) hO) $$ [HO HfB]
  · isplitr; · iexact HE
    isplitl [HO] <;> iassumption
  iintro HO HxB HxR Hv3
  rw [xTile_read m c _ _ _ (off3_at c s)]
  iapply (mulTile_spec c xcB wtB tpB (xCh m c (fwd c (s.val + 1))) B)
  isplitl [HxB]; · iexact HxB
  isplitl [HB]; · iexact HB
  isplitl [HtB]; · iexact HtB
  iintro HxB HB HtB
  ihave HxF := (bufIs_any xcF c _) $$ HxF
  ihave HxB := (bufIs_any xcB c _) $$ HxB
  iapply Hk $$ HO [HxL HxR HwL HwR Hv0 Hv1 Hv2 Hv3] HA HB HxF HxB HtF HtB
  isplitl [HxL]; · iexact HxL
  isplitl [HxR]; · iexact HxR
  isplitl [HwL]; · iexact HwL
  isplitl [HwR]; · iexact HwR
  isplitl [Hv0]; · iexact Hv0
  isplitl [Hv1]; · iexact Hv1
  isplitl [Hv2] <;> iassumption

/-- A pass's prologue. -/
theorem prologue_spec (c : Dev nD) (n n' : Fin 8) {O : CellTallies nD τ sig ℕ} (hO : From 0 O) (Kt : PUnit → sProp 𝕄) :
    iprop(env m K ∗ owesE c O ∗ inp m c ∗ bufAny wtF c ∗ bufAny wtB c ∗ bufAny xcF c ∗ slotAny cmF c 0 ∗ slotAny cmB c 0
        ∗ (owesE c O -∗ inp m c -∗ bufIs wtF c (wCh m c n) -∗ bufIs wtB c (wCh m c n') -∗ bufAny xcF c
            -∗ slotIs cmF c 0 (dotT (xCh m c c) (wCh m c n)) -∗ slotIs cmB c 0 (dotT (xCh m c c) (wCh m c n')) -∗ Kt ⟨⟩))
      ⊢ runs c (prologue c n n') Kt := by
  unfold runs prologue inp
  simp only [Prog.lift, Prog.bind_op, Prog.bind_ret, Prog.pure_eq_ret]
  iintro ⟨#HE, HO, ⟨HxL, HxR, HwL, HwR, Hv0, Hv1, Hv2, Hv3⟩, HA, HB, HxF, HsF, HsB, Hk⟩
  iapply (wp_copyIn c (wTile n) wtF (ldS 0) fullShare.left (m ((c : Thread nD τ).loc main_arg1))) $$ [HwL HA Hv0]
  · isplitl [HwL]; · iexact HwL
    isplitl [HA] <;> iassumption
  iintro Hf0
  iapply (wp_copyIn c (wTile n') wtB (ldS 1) fullShare.right (m ((c : Thread nD τ).loc main_arg1))) $$ [HwR HB Hv1]
  · isplitl [HwR]; · iexact HwR
    isplitl [HB] <;> iassumption
  iintro Hf1
  iapply (wp_copyIn c (xTile (k0_off1 c) (k0_off1_inb c)) xcF (ldS 2) fullShare.left (m ((c : Thread nD τ).loc main_arg0))) $$ [HxL HxF Hv2]
  · isplitl [HxL]; · iexact HxL
    isplitl [HxF] <;> iassumption
  iintro Hf2
  iapply (wp_copyInW m K c (wTile n) wtF (ldS 0) fullShare.left (m ((c : Thread nD τ).loc main_arg1)) hO) $$ [HO Hf0]
  · isplitr; · iexact HE
    isplitl [HO] <;> iassumption
  iintro HO HA HwL Hv0
  iapply (wp_copyInW m K c (wTile n') wtB (ldS 1) fullShare.right (m ((c : Thread nD τ).loc main_arg1)) hO) $$ [HO Hf1]
  · isplitr; · iexact HE
    isplitl [HO] <;> iassumption
  iintro HO HB HwR Hv1
  iapply (wp_copyInW m K c (xTile (k0_off1 c) (k0_off1_inb c)) xcF (ldS 2) fullShare.left (m ((c : Thread nD τ).loc main_arg0)) hO) $$ [HO Hf2]
  · isplitr; · iexact HE
    isplitl [HO] <;> iassumption
  iintro HO HxF HxL Hv2
  rw [xTile_read m c _ _ _ (off1_at c), wp_bind]
  iapply (firstTile_spec c wtF cmF (xCh m c c) (wCh m c n))
  isplitl [HxF]; · iexact HxF
  isplitl [HA]; · iexact HA
  isplitl [HsF]; · iexact HsF
  iintro HxF HA HsF
  iapply (firstTile_spec c wtB cmB (xCh m c c) (wCh m c n'))
  isplitl [HxF]; · iexact HxF
  isplitl [HB]; · iexact HB
  isplitl [HsB]; · iexact HsB
  iintro HxF HB HsB
  ihave HxF := (bufIs_any xcF c _) $$ HxF
  iapply Hk $$ HO [HxL HxR HwL HwR Hv0 Hv1 Hv2 Hv3] HA HB HxF HsF HsB
  isplitl [HxL]; · iexact HxL
  isplitl [HxR]; · iexact HxR
  isplitl [HwL]; · iexact HwL
  isplitl [HwR]; · iexact HwR
  isplitl [Hv0]; · iexact Hv0
  isplitl [Hv1]; · iexact Hv1
  isplitl [Hv2] <;> iassumption

/-! ## The result -/

/-- The block of the result at row block `t.1`, column block `t.2`. -/
abbrev oT (t : Dev nD × Fin 8) : Memref sig .tc .hbm S1024x1024 .f32 := oTile ![1024 * t.1.val, 1024 * t.2.val] (o_inb t.1 t.2)

/-- What it holds in the end: its four products summed along the ring. -/
def res (t : Dev nD × Fin 8) : Vec F S1024x1024 .f32 :=
  if t.2.val < 4 then srcF m t.2.val 3 (prv t.1) else srcB m (t.2.val - 4) 3 (nxt t.1)

/-- One block of device `c`'s result, final if it is one of `D`. -/
def outAt (c : Dev nD) (D : Finset (Dev nD × Fin 8)) (t : Dev nD × Fin 8) : sProp 𝕄 :=
  iprop(∃ f, ⌜t ∈ D → (oT t).view.read (Elt F) f = res m t⌝ ∗ ((oT t).view.loc (c : Thread nD τ) ↦[(oT t).view.set]{fullShare} f))
/-- The result with the blocks `D` final, and the two store cells at rest. -/
def out (c : Dev nD) (D : Finset (Dev nD × Fin 8)) : sProp 𝕄 :=
  iprop(bigSep Finset.univ (outAt m c D) ∗ semVal ((c : Thread nD τ), .dma (stS 0)) 0 ∗ semVal ((c : Thread nD τ), .dma (stS 1)) 0)

theorem outAt_any (c : Dev nD) (D) (t) : outAt m c D t ⊢ bufAny (oT t) c := by
  unfold outAt bufAny
  iintro ⟨%f, -, H⟩
  iexists f; iexact H
theorem outAt_of (c : Dev nD) (D) (t) : bufIs (oT t) c (res m t) ⊢ outAt m c D t := by
  unfold outAt bufIs
  iintro ⟨%f, %hf, H⟩
  iexists f
  isplitr; · ipureintro; exact fun _ => hf
  iexact H
theorem outAt_mono (c : Dev nD) (D D') (t) (h : t ∈ D' → t ∈ D) : outAt m c D t ⊢ outAt m c D' t := by
  unfold outAt
  iintro ⟨%f, %hf, H⟩
  iexists f
  isplitr; · ipureintro; exact fun hm => hf (h hm)
  iexact H

/-- Taking out two blocks, and putting them back final. -/
theorem out_take (c : Dev nD) (D) (t t' : Dev nD × Fin 8) (h : t ≠ t') :
    (bigSep Finset.univ (outAt m c D) : sProp 𝕄) ⊢ iprop(bufAny (oT t) c ∗ bufAny (oT t') c
      ∗ (bufIs (oT t) c (res m t) -∗ bufIs (oT t') c (res m t') -∗ bigSep Finset.univ (outAt m c (insert t (insert t' D))))) := by
  have h' : t' ∈ Finset.univ.erase t := Finset.mem_erase.mpr ⟨h.symm, Finset.mem_univ _⟩
  have e (E : Finset (Dev nD × Fin 8)) : (bigSep Finset.univ (outAt m c E) : sProp 𝕄)
      = iprop(outAt m c E t ∗ outAt m c E t' ∗ bigSep ((Finset.univ.erase t).erase t') (outAt m c E)) := by
    rw [bigSep_erase (Finset.mem_univ t), bigSep_erase h']; rfl
  rw [e D, e (insert t (insert t' D))]
  have hrest : (bigSep ((Finset.univ.erase t).erase t') (outAt m c D) : sProp 𝕄) ⊢ bigSep ((Finset.univ.erase t).erase t') (outAt m c (insert t (insert t' D))) :=
    bigSep_mono fun x hx => outAt_mono m c D _ x fun hm => by
      obtain ⟨h1, h2⟩ := Finset.mem_erase.mp hx
      obtain ⟨h3, -⟩ := Finset.mem_erase.mp h2
      exact ((Finset.mem_insert.mp ((Finset.mem_insert.mp hm).resolve_left h3)).resolve_left h1)
  iintro ⟨H1, H2, Hr⟩
  isplitl [H1]; · iapply (outAt_any m c D t) $$ H1
  isplitl [H2]; · iapply (outAt_any m c D t') $$ H2
  iintro H1 H2
  isplitl [H1]; · iapply (outAt_of m c _ t) $$ H1
  isplitl [H2]; · iapply (outAt_of m c _ t') $$ H2
  iapply hrest $$ Hr

/-- Storing slot `k` both ways into two blocks of the result. -/
theorem stores_spec (c : Dev nD) (k : Fin 2) (D) (t t' : Dev nD × Fin 8) (h : t ≠ t') (o h₁ o' h₂)
    (ho : o = ![1024 * t.1.val, 1024 * t.2.val]) (ho' : o' = ![1024 * t'.1.val, 1024 * t'.2.val])
    {O : CellTallies nD τ sig ℕ} (hO : From 0 O) (Kt : PUnit → sProp 𝕄) :
    iprop(env m K ∗ owesE c O ∗ out m c D ∗ slotIs cmF c k (res m t) ∗ slotIs cmB c k (res m t')
        ∗ (owesE c O -∗ out m c (insert t (insert t' D)) -∗ slotIs cmF c k (res m t) -∗ slotIs cmB c k (res m t') -∗ Kt ⟨⟩))
      ⊢ runs c (stores k o h₁ o' h₂) Kt := by
  subst ho ho'
  unfold runs stores out
  simp only [Prog.lift, Prog.bind_op, Prog.bind_ret, Prog.pure_eq_ret]
  unfold slotIs
  iintro ⟨#HE, HO, ⟨Hout, Hv0, Hv1⟩, ⟨%f, %hf, HF⟩, ⟨%f', %hf', HB⟩, Hk⟩
  ihave Hout := (out_take m c D t t' h) $$ Hout
  icases Hout with ⟨Ht, Ht', Hput⟩
  iapply (wp_copy c (slot cmF k) (oT t) (stS 0) fullShare f) $$ [HF Ht Hv0]
  · isplitl [HF]; · iexact HF
    isplitl [Ht] <;> iassumption
  iintro Hf0
  iapply (wp_copy c (slot cmB k) (oT t') (stS 1) fullShare f') $$ [HB Ht' Hv1]
  · isplitl [HB]; · iexact HB
    isplitl [Ht'] <;> iassumption
  iintro Hf1
  iapply (wp_copyW m K c (slot cmF k) (oT t) (stS 0) fullShare f hO) $$ [HO Hf0]
  · isplitr; · iexact HE
    isplitl [HO] <;> iassumption
  iintro HO Ht HF Hv0
  iapply (wp_copyW m K c (slot cmB k) (oT t') (stS 1) fullShare f' hO) $$ [HO Hf1]
  · isplitr; · iexact HE
    isplitl [HO] <;> iassumption
  iintro HO Ht' HB Hv1
  rw [hf, hf', wp_ret]; imodintro
  iapply Hk $$ HO [Ht Ht' Hput Hv0 Hv1] [HF] [HB]
  · isplitl [Ht Ht' Hput]
    · iapply Hput $$ Ht Ht'
    isplitl [Hv0] <;> iassumption
  · iexists f
    isplitr; · ipureintro; exact hf
    iexact HF
  · iexists f'
    isplitr; · ipureintro; exact hf'
    iexact HB

end Cert.RingProof

end
-- ==== Proof.Pass.lean ====
/-
A ring step, a pass and the body.

`idle c g X Y` is device `c` between ring steps, before handshake `g`, with `X` and `Y` in the slots
ring step `g` sends from; `ready c g X Y` is the same after the handshake.
-/
module

public import proofs.«01_k».proof.Proof.Tile

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig ℕ (Elt F) ℕ UU ℕ

variable (m : (ℓ : Loc nD τ sig) → Buf (Elt F) ℓ) (K : Dev nD × CI → ℕ)

/-! ## States between the steps -/

def idle (c : Dev nD) (g : ℕ) (X Y : Vec F S1024x1024 .f32) : sProp 𝕄 :=
  iprop(owesE c (ow c g) ∗ BT c g ∗ F0 c g ∗ B0 c g ∗ slotAny cmF c (par (g + 1)) ∗ slotAny cmB c (par (g + 1))
    ∗ slotIs cmF c (par g) X ∗ slotIs cmB c (par g) Y)
def ready (c : Dev nD) (g : ℕ) (X Y : Vec F S1024x1024 .f32) : sProp 𝕄 :=
  iprop(owesE c (owH c g) ∗ BT c (g + 1) ∗ F1 c g ∗ B1 c g ∗ slotIs cmF c (par g) X ∗ slotIs cmB c (par g) Y)

/-- The inputs, and the buffers only local statements touch, in pass `p`. -/
def work (c : Dev nD) (p : ℕ) : sProp 𝕄 :=
  iprop(inp m c ∗ bufIs wtF c (wCh m c (nF p)) ∗ bufIs wtB c (wCh m c (nB p)) ∗ bufAny xcF c ∗ bufAny xcB c ∗ bufAny tpF c ∗ bufAny tpB c)

theorem par_two (g : ℕ) : par (g + 1 + 1) = par g := by apply Fin.ext; simp only [par]; omega

theorem gF_at (p j : ℕ) (hj : j < 6) (c : Dev nD) : gF m (6 * p + j) c = srcF m p j c := by
  unfold gF; rw [show (6 * p + j) / 6 = p by omega, show (6 * p + j) % 6 = j by omega]
theorem gB_at (p j : ℕ) (hj : j < 6) (c : Dev nD) : gB m (6 * p + j) c = srcB m p j c := by
  unfold gB; rw [show (6 * p + j) / 6 = p by omega, show (6 * p + j) % 6 = j by omega]

theorem hs_spec (c : Dev nD) (g : ℕ) (hg : g < 24) (X Y : Vec F S1024x1024 .f32) (Kt : PUnit → sProp 𝕄) :
    iprop(env m K ∗ idle c g X Y ∗ (ready c g X Y -∗ Kt ⟨⟩)) ⊢ runs c (handshake c) Kt := by
  unfold idle ready
  iintro ⟨#HE, ⟨HO, HBT, HF, HB, HsF, HsB, HkF, HkB⟩, Hk⟩
  iapply (handshake_spec m K c g hg (par (g + 1)) rfl)
  isplitr; · iexact HE
  isplitl [HO]; · iexact HO
  isplitl [HBT]; · iexact HBT
  isplitl [HF]; · iexact HF
  isplitl [HB]; · iexact HB
  isplitl [HsF]; · iexact HsF
  isplitl [HsB]; · iexact HsB
  iintro HO HBT HF HB
  iapply Hk
  isplitl [HO]; · iexact HO
  isplitl [HBT]; · iexact HBT
  isplitl [HF]; · iexact HF
  isplitl [HB]; · iexact HB
  isplitl [HkF] <;> iassumption

set_option maxHeartbeats 800000 in
theorem rs_spec (c : Dev nD) (p : ℕ) (s : Fin 3) (g g' : ℕ) (hg : g = 6 * p + s.val) (hg' : g' = g + 1) (hlt : g < 24) (k l : Fin 2)
    (hk : k = par g) (hl : l = par g') (Kt : PUnit → sProp 𝕄) :
    iprop(env m K ∗ ready c g (srcF m p s.val c) (srcB m p s.val c) ∗ work m c p
        ∗ (idle c g' (srcF m p (s.val + 1) c) (srcB m p (s.val + 1) c) -∗ work m c p -∗ Kt ⟨⟩))
      ⊢ runs c (rsStep c s k l) Kt := by
  subst hg'
  have eF (d : Dev nD) : srcF m p s.val d = gF m g d := by rw [hg]; exact (gF_at m p _ (by have := s.isLt; omega) d).symm
  have eB (d : Dev nD) : srcB m p s.val d = gB m g d := by rw [hg]; exact (gB_at m p _ (by have := s.isLt; omega) d).symm
  have nextF : srcF m p (s.val + 1) c = addT (gF m g (prv c)) (dotT (xCh m c (back c (s.val + 1))) (wCh m c (nF p))) := by
    rw [← eF]; exact if_pos s.isLt
  have nextB : srcB m p (s.val + 1) c = addT (gB m g (nxt c)) (dotT (xCh m c (fwd c (s.val + 1))) (wCh m c (nB p))) := by
    rw [← eB]; exact if_pos s.isLt
  have hfrom : From 0 (ow c (g + 1)) := from_ow c (g + 1) 0 (Nat.zero_le _)
  unfold idle ready work
  rw [nextF, nextB, eF, eB, par_two, ← hl, ← hk]
  unfold runs rsStep
  simp only [wp_bind]
  iintro ⟨#HE, ⟨HO, HBT, HF, HB, HkF, HkB⟩, ⟨Hinp, HwF, HwB, HxF, HxB, HtF, HtB⟩, Hk⟩
  iapply (sends_spec m K c g hlt k l hk hl)
  isplitr; · iexact HE
  isplitl [HO]; · iexact HO
  isplitl [HF]; · iexact HF
  isplitl [HB]; · iexact HB
  isplitl [HkF]; · iexact HkF
  isplitl [HkB]; · iexact HkB
  iintro HO HF HB
  iapply (products_spec m K c s (wCh m c (nF p)) (wCh m c (nB p)) hfrom)
  isplitr; · iexact HE
  isplitl [HO]; · iexact HO
  isplitl [Hinp]; · iexact Hinp
  isplitl [HwF]; · iexact HwF
  isplitl [HwB]; · iexact HwB
  isplitl [HxF]; · iexact HxF
  isplitl [HxB]; · iexact HxB
  isplitl [HtF]; · iexact HtF
  isplitl [HtB]; · iexact HtB
  iintro HO Hinp HwF HwB HxF HxB HtF HtB
  iapply (waitF_spec m K c g hlt k l hk hl)
  isplitr; · iexact HE
  isplitl [HO]; · iexact HO
  isplitl [HF]; · iexact HF
  iintro HO HF HkF HlF
  iapply (accum_spec c cmF tpF l (gF m g (prv c)) (dotT (xCh m c (back c (s.val + 1))) (wCh m c (nF p))))
  isplitl [HlF]; · iexact HlF
  isplitl [HtF]; · iexact HtF
  iintro HlF HtF
  iapply (waitB_spec m K c g hlt k l hk hl)
  isplitr; · iexact HE
  isplitl [HO]; · iexact HO
  isplitl [HB]; · iexact HB
  iintro HO HB HkB HlB
  iapply (accum_spec c cmB tpB l (gB m g (nxt c)) (dotT (xCh m c (fwd c (s.val + 1))) (wCh m c (nB p))))
  isplitl [HlB]; · iexact HlB
  isplitl [HtB]; · iexact HtB
  iintro HlB HtB
  iapply Hk $$ [HO HBT HF HB HkF HkB HlF HlB] [Hinp HwF HwB HxF HxB HtF HtB]
  · isplitl [HO]; · iexact HO
    isplitl [HBT]; · iexact HBT
    isplitl [HF]; · iexact HF
    isplitl [HB]; · iexact HB
    isplitl [HkF]; · iexact HkF
    isplitl [HkB]; · iexact HkB
    isplitl [HlF] <;> iassumption
  · isplitl [Hinp]; · iexact Hinp
    isplitl [HwF]; · iexact HwF
    isplitl [HwB]; · iexact HwB
    isplitl [HxF]; · iexact HxF
    isplitl [HxB]; · iexact HxB
    isplitl [HtF] <;> iassumption

theorem ag_spec (c : Dev nD) (p j : ℕ) (hj : 3 ≤ j) (hj6 : j < 6) (g g' : ℕ) (hg : g = 6 * p + j) (hg' : g' = g + 1) (hlt : g < 24) (k l : Fin 2)
    (hk : k = par g) (hl : l = par g') (Kt : PUnit → sProp 𝕄) :
    iprop(env m K ∗ ready c g (srcF m p j c) (srcB m p j c)
        ∗ (idle c g' (srcF m p (j + 1) c) (srcB m p (j + 1) c) -∗ Kt ⟨⟩))
      ⊢ runs c (agStep c k l) Kt := by
  subst hg'
  have eF (d : Dev nD) : srcF m p j d = gF m g d := by rw [hg]; exact (gF_at m p _ hj6 d).symm
  have eB (d : Dev nD) : srcB m p j d = gB m g d := by rw [hg]; exact (gB_at m p _ hj6 d).symm
  have nextF : srcF m p (j + 1) c = gF m g (prv c) := by rw [← eF]; exact if_neg (by omega)
  have nextB : srcB m p (j + 1) c = gB m g (nxt c) := by rw [← eB]; exact if_neg (by omega)
  unfold idle ready
  rw [nextF, nextB, eF, eB, par_two, ← hl, ← hk]
  unfold runs agStep
  simp only [wp_bind]
  iintro ⟨#HE, ⟨HO, HBT, HF, HB, HkF, HkB⟩, Hk⟩
  iapply (sends_spec m K c g hlt k l hk hl)
  isplitr; · iexact HE
  isplitl [HO]; · iexact HO
  isplitl [HF]; · iexact HF
  isplitl [HB]; · iexact HB
  isplitl [HkF]; · iexact HkF
  isplitl [HkB]; · iexact HkB
  iintro HO HF HB
  iapply (waitF_spec m K c g hlt k l hk hl)
  isplitr; · iexact HE
  isplitl [HO]; · iexact HO
  isplitl [HF]; · iexact HF
  iintro HO HF HkF HlF
  iapply (waitB_spec m K c g hlt k l hk hl)
  isplitr; · iexact HE
  isplitl [HO]; · iexact HO
  isplitl [HB]; · iexact HB
  iintro HO HB HkB HlB
  iapply Hk
  isplitl [HO]; · iexact HO
  isplitl [HBT]; · iexact HBT
  isplitl [HF]; · iexact HF
  isplitl [HB]; · iexact HB
  isplitl [HkF]; · iexact HkF
  isplitl [HkB]; · iexact HkB
  isplitl [HlF] <;> iassumption

/-- The stores between two ring steps. -/
theorem store_spec (c : Dev nD) (g : ℕ) (k : Fin 2) (hk : k = par g) (X Y : Vec F S1024x1024 .f32) (D) (t t' : Dev nD × Fin 8)
    (hX : X = res m t) (hY : Y = res m t') (h : t ≠ t') (o h₁ o' h₂)
    (ho : o = ![1024 * t.1.val, 1024 * t.2.val]) (ho' : o' = ![1024 * t'.1.val, 1024 * t'.2.val]) (Kt : PUnit → sProp 𝕄) :
    iprop(env m K ∗ idle c g X Y ∗ out m c D ∗ (idle c g X Y -∗ out m c (insert t (insert t' D)) -∗ Kt ⟨⟩))
      ⊢ runs c (stores k o h₁ o' h₂) Kt := by
  subst hk
  unfold idle
  rw [hX, hY]
  iintro ⟨#HE, ⟨HO, HBT, HF, HB, HkF, HkB, HlF, HlB⟩, Hout, Hk⟩
  iapply (stores_spec m K c (par g) D t t' h o h₁ o' h₂ ho ho' (from_ow c g 0 (Nat.zero_le _)))
  isplitr; · iexact HE
  isplitl [HO]; · iexact HO
  isplitl [Hout]; · iexact Hout
  isplitl [HlF]; · iexact HlF
  isplitl [HlB]; · iexact HlB
  iintro HO Hout HlF HlB
  iapply Hk $$ [HO HBT HF HB HkF HkB HlF HlB] Hout
  isplitl [HO]; · iexact HO
  isplitl [HBT]; · iexact HBT
  isplitl [HF]; · iexact HF
  isplitl [HB]; · iexact HB
  isplitl [HkF]; · iexact HkF
  isplitl [HkB]; · iexact HkB
  isplitl [HlF] <;> iassumption

/-! ## A pass -/

/-- The blocks one pass stores. -/
def put (c : Dev nD) (p : ℕ) (t : ℕ) (D : Finset (Dev nD × Fin 8)) : Finset (Dev nD × Fin 8) :=
  insert (back c t, nF p) (insert (fwd c t, nB p) D)
def own (c : Dev nD) (p : ℕ) (D : Finset (Dev nD × Fin 8)) : Finset (Dev nD × Fin 8) :=
  insert (fwd c 1, nF p) (insert (back c 1, nB p) D)
def tiles (c : Dev nD) (p : ℕ) (D : Finset (Dev nD × Fin 8)) : Finset (Dev nD × Fin 8) :=
  put c p 2 (put c p 1 (put c p 0 (own c p D)))

theorem ne_tiles (a b : Dev nD) (p : ℕ) : (a, nF p) ≠ (b, nB p) := fun h => by
  have := congrArg Fin.val (Prod.ext_iff.mp h).2
  simp only [nF, nB] at this
  omega

theorem res_F (t : Dev nD) (p : ℕ) (hp : p < 4) : res m (t, nF p) = srcF m p 3 (prv t) := by
  unfold res
  have h : (nF p).val = p := by simp only [nF]; omega
  dsimp only
  rw [h, if_pos hp]
theorem res_B (t : Dev nD) (p : ℕ) (hp : p < 4) : res m (t, nB p) = srcB m p 3 (nxt t) := by
  unfold res
  have h : (nB p).val = 4 + p := by simp only [nB]; omega
  dsimp only
  rw [h, if_neg (by omega), show 4 + p - 4 = p by omega]

theorem srcF_ag (p : ℕ) (t : ℕ) (c : Dev nD) : srcF m p (3 + t) c = srcF m p 3 (back c t) := by
  induction t generalizing c with
  | zero => rw [show back c 0 = c from by apply Fin.ext; have := c.isLt; simp only [back]; change c.val < 4 at this; omega]
  | succ t ih =>
    have e : srcF m p (3 + (t + 1)) c = srcF m p (3 + t) (prv c) := if_neg (show ¬ 3 + t < 3 by omega)
    rw [e, ih, back_back, Nat.add_comm 1 t]
theorem srcB_ag (p : ℕ) (t : ℕ) (c : Dev nD) : srcB m p (3 + t) c = srcB m p 3 (fwd c t) := by
  induction t generalizing c with
  | zero => rw [show fwd c 0 = c from by apply Fin.ext; have := c.isLt; simp only [fwd]; change c.val < 4 at this; omega]
  | succ t ih =>
    have e : srcB m p (3 + (t + 1)) c = srcB m p (3 + t) (nxt c) := if_neg (show ¬ 3 + t < 3 by omega)
    rw [e, ih, fwd_fwd, Nat.add_comm 1 t]

theorem own_F (c : Dev nD) (p : ℕ) (hp : p < 4) : srcF m p 3 c = res m (fwd c 1, nF p) := by rw [res_F m _ p hp, prv_nxt]
theorem own_B (c : Dev nD) (p : ℕ) (hp : p < 4) : srcB m p 3 c = res m (back c 1, nB p) := by rw [res_B m _ p hp, nxt_prv]
theorem put_F (c : Dev nD) (p t : ℕ) (hp : p < 4) : srcF m p (3 + t + 1) c = res m (back c t, nF p) := by
  rw [res_F m _ p hp, show prv (back c t) = back c (t + 1) from back_back c t 1]; exact srcF_ag m p (t + 1) c
theorem put_B (c : Dev nD) (p t : ℕ) (hp : p < 4) : srcB m p (3 + t + 1) c = res m (fwd c t, nB p) := by
  rw [res_B m _ p hp, show nxt (fwd c t) = fwd c (t + 1) from fwd_fwd c t 1]; exact srcB_ag m p (t + 1) c

set_option maxHeartbeats 1600000 in
theorem ringPass_spec (c : Dev nD) (p : ℕ) (hp : p < 4) (D) (oF hF oB hB gF kF gB kB)
    (hoF : oF = ![1024 * (fwd c 1).val, 1024 * (nF p).val]) (hoB : oB = ![1024 * (back c 1).val, 1024 * (nB p).val])
    (hgF : ∀ t : Fin 3, gF t = ![1024 * (back c t.val).val, 1024 * (nF p).val])
    (hgB : ∀ t : Fin 3, gB t = ![1024 * (fwd c t.val).val, 1024 * (nB p).val]) (Kt : PUnit → sProp 𝕄) :
    iprop(env m K ∗ ready c (6 * p) (srcF m p 0 c) (srcB m p 0 c) ∗ work m c p ∗ out m c D
        ∗ (idle c (6 * p + 6) (srcF m p 6 c) (srcB m p 6 c) -∗ work m c p -∗ out m c (tiles c p D) -∗ Kt ⟨⟩))
      ⊢ runs c (ringPass c oF hF oB hB gF kF gB kB) Kt := by
  have par_at (j : ℕ) (k : Fin 2) (h : k.val = j % 2) : k = par (6 * p + j) := by apply Fin.ext; simp only [par]; omega
  unfold runs ringPass tiles
  simp only [wp_bind]
  iintro ⟨#HE, Hr, Hw, Ho, Hk⟩
  iapply (rs_spec m K c p 0 (6 * p) (6 * p + 1) rfl rfl (by omega) 0 1 (par_at 0 0 rfl) (par_at 1 1 rfl))
  isplitr; · iexact HE
  isplitl [Hr]; · iexact Hr
  isplitl [Hw]; · iexact Hw
  iintro Hi Hw
  iapply (hs_spec m K c (6 * p + 1) (by omega))
  isplitr; · iexact HE
  isplitl [Hi]; · iexact Hi
  iintro Hr
  iapply (rs_spec m K c p 1 (6 * p + 1) (6 * p + 2) rfl rfl (by omega) 1 0 (par_at 1 1 rfl) (par_at 2 0 rfl))
  isplitr; · iexact HE
  isplitl [Hr]; · iexact Hr
  isplitl [Hw]; · iexact Hw
  iintro Hi Hw
  iapply (hs_spec m K c (6 * p + 2) (by omega))
  isplitr; · iexact HE
  isplitl [Hi]; · iexact Hi
  iintro Hr
  iapply (rs_spec m K c p 2 (6 * p + 2) (6 * p + 3) rfl rfl (by omega) 0 1 (par_at 2 0 rfl) (par_at 3 1 rfl))
  isplitr; · iexact HE
  isplitl [Hr]; · iexact Hr
  isplitl [Hw]; · iexact Hw
  iintro Hi Hw
  iapply (store_spec m K c (6 * p + 3) 1 (par_at 3 1 rfl) _ _ D (fwd c 1, nF p) (back c 1, nB p) (own_F m c p hp) (own_B m c p hp)
    (ne_tiles _ _ p) oF hF oB hB hoF hoB)
  isplitr; · iexact HE
  isplitl [Hi]; · iexact Hi
  isplitl [Ho]; · iexact Ho
  iintro Hi Ho
  iapply (hs_spec m K c (6 * p + 3) (by omega))
  isplitr; · iexact HE
  isplitl [Hi]; · iexact Hi
  iintro Hr
  iapply (ag_spec m K c p 3 (by omega) (by omega) (6 * p + 3) (6 * p + 4) rfl rfl (by omega) 1 0 (par_at 3 1 rfl) (par_at 4 0 rfl))
  isplitr; · iexact HE
  isplitl [Hr]; · iexact Hr
  iintro Hi
  iapply (store_spec m K c (6 * p + 4) 0 (par_at 4 0 rfl) _ _ (own c p D) (back c 0, nF p) (fwd c 0, nB p) (put_F m c p 0 hp) (put_B m c p 0 hp)
    (ne_tiles _ _ p) (gF 0) (kF 0) (gB 0) (kB 0) (hgF 0) (hgB 0))
  isplitr; · iexact HE
  isplitl [Hi]; · iexact Hi
  isplitl [Ho]; · iexact Ho
  iintro Hi Ho
  iapply (hs_spec m K c (6 * p + 4) (by omega))
  isplitr; · iexact HE
  isplitl [Hi]; · iexact Hi
  iintro Hr
  iapply (ag_spec m K c p 4 (by omega) (by omega) (6 * p + 4) (6 * p + 5) rfl rfl (by omega) 0 1 (par_at 4 0 rfl) (par_at 5 1 rfl))
  isplitr; · iexact HE
  isplitl [Hr]; · iexact Hr
  iintro Hi
  iapply (store_spec m K c (6 * p + 5) 1 (par_at 5 1 rfl) _ _ (put c p 0 (own c p D)) (back c 1, nF p) (fwd c 1, nB p) (put_F m c p 1 hp) (put_B m c p 1 hp)
    (ne_tiles _ _ p) (gF 1) (kF 1) (gB 1) (kB 1) (hgF 1) (hgB 1))
  isplitr; · iexact HE
  isplitl [Hi]; · iexact Hi
  isplitl [Ho]; · iexact Ho
  iintro Hi Ho
  iapply (hs_spec m K c (6 * p + 5) (by omega))
  isplitr; · iexact HE
  isplitl [Hi]; · iexact Hi
  iintro Hr
  iapply (ag_spec m K c p 5 (by omega) (by omega) (6 * p + 5) (6 * p + 6) rfl rfl (by omega) 1 0 (par_at 5 1 rfl) (par_at 6 0 rfl))
  isplitr; · iexact HE
  isplitl [Hr]; · iexact Hr
  iintro Hi
  iapply (store_spec m K c (6 * p + 6) 0 (par_at 6 0 rfl) _ _ (put c p 1 (put c p 0 (own c p D))) (back c 2, nF p) (fwd c 2, nB p) (put_F m c p 2 hp) (put_B m c p 2 hp)
    (ne_tiles _ _ p) (gF 2) (kF 2) (gB 2) (kB 2) (hgF 2) (hgB 2))
  isplitr; · iexact HE
  isplitl [Hi]; · iexact Hi
  isplitl [Ho]; · iexact Ho
  iintro Hi Ho
  ihave Ho := (Entails.of_eq (show out m c (insert (back c 2, nF p) (insert (fwd c 2, nB p) (put c p 1 (put c p 0 (own c p D)))))
    = out m c (put c p 2 (put c p 1 (put c p 0 (own c p D)))) from rfl)) $$ Ho
  iapply Hk $$ Hi Hw Ho

/-! ## Prologues -/

/-- The prologue of pass 0, after the first handshake. -/
theorem first_prologue (c : Dev nD) (X Y : Vec F S1024x1024 .f32) (Kt : PUnit → sProp 𝕄) :
    iprop(env m K ∗ ready c 0 X Y ∗ inp m c ∗ bufAny wtF c ∗ bufAny wtB c ∗ bufAny xcF c ∗ bufAny xcB c ∗ bufAny tpF c ∗ bufAny tpB c
        ∗ (ready c 0 (srcF m 0 0 c) (srcB m 0 0 c) -∗ work m c 0 -∗ Kt ⟨⟩))
      ⊢ runs c (prologue c 0 4) Kt := by
  unfold ready work
  iintro ⟨#HE, ⟨HO, HBT, HF, HB, HkF, HkB⟩, Hinp, HwF, HwB, HxF, HxB, HtF, HtB, Hk⟩
  ihave HkF := (slotIs_any cmF c (par 0) X) $$ HkF
  ihave HkB := (slotIs_any cmB c (par 0) Y) $$ HkB
  iapply (prologue_spec m K c 0 4 (from_owH c 0 0 (by omega) le_rfl))
  isplitr; · iexact HE
  isplitl [HO]; · iexact HO
  isplitl [Hinp]; · iexact Hinp
  isplitl [HwF]; · iexact HwF
  isplitl [HwB]; · iexact HwB
  isplitl [HxF]; · iexact HxF
  isplitl [HkF]; · iexact HkF
  isplitl [HkB]; · iexact HkB
  iintro HO Hinp HwF HwB HxF HkF HkB
  iapply Hk $$ [HO HBT HF HB HkF HkB] [Hinp HwF HwB HxF HxB HtF HtB]
  · isplitl [HO]; · iexact HO
    isplitl [HBT]; · iexact HBT
    isplitl [HF]; · iexact HF
    isplitl [HB]; · iexact HB
    isplitl [HkF]; · iexact HkF
    iexact HkB
  · isplitl [Hinp]; · iexact Hinp
    isplitl [HwF]; · iexact HwF
    isplitl [HwB]; · iexact HwB
    isplitl [HxF]; · iexact HxF
    isplitl [HxB]; · iexact HxB
    isplitl [HtF] <;> iassumption

/-- The prologue of a later pass `p`, before its first handshake. -/
theorem later_prologue (c : Dev nD) (p q : ℕ) (n n' : Fin 8) (hn : n = nF p) (hn' : n' = nB p) (g : ℕ) (hg : (0 : Fin 2) = par g)
    (X Y : Vec F S1024x1024 .f32) (Kt : PUnit → sProp 𝕄) :
    iprop(env m K ∗ idle c g X Y ∗ work m c q
        ∗ (idle c g (srcF m p 0 c) (srcB m p 0 c) -∗ work m c p -∗ Kt ⟨⟩))
      ⊢ runs c (prologue c n n') Kt := by
  subst hn hn'
  unfold idle work
  rw [← hg]
  iintro ⟨#HE, ⟨HO, HBT, HF, HB, HsF, HsB, HkF, HkB⟩, ⟨Hinp, HwF, HwB, HxF, HxB, HtF, HtB⟩, Hk⟩
  ihave HkF := (slotIs_any cmF c 0 X) $$ HkF
  ihave HkB := (slotIs_any cmB c 0 Y) $$ HkB
  ihave HwF := (bufIs_any wtF c _) $$ HwF
  ihave HwB := (bufIs_any wtB c _) $$ HwB
  iapply (prologue_spec m K c (nF p) (nB p) (from_ow c g 0 (Nat.zero_le _)))
  isplitr; · iexact HE
  isplitl [HO]; · iexact HO
  isplitl [Hinp]; · iexact Hinp
  isplitl [HwF]; · iexact HwF
  isplitl [HwB]; · iexact HwB
  isplitl [HxF]; · iexact HxF
  isplitl [HkF]; · iexact HkF
  isplitl [HkB]; · iexact HkB
  iintro HO Hinp HwF HwB HxF HkF HkB
  iapply Hk $$ [HO HBT HF HB HsF HsB HkF HkB] [Hinp HwF HwB HxF HxB HtF HtB]
  · isplitl [HO]; · iexact HO
    isplitl [HBT]; · iexact HBT
    isplitl [HF]; · iexact HF
    isplitl [HB]; · iexact HB
    isplitl [HsF]; · iexact HsF
    isplitl [HsB]; · iexact HsB
    isplitl [HkF]; · iexact HkF
    iexact HkB
  · isplitl [Hinp]; · iexact Hinp
    isplitl [HwF]; · iexact HwF
    isplitl [HwB]; · iexact HwB
    isplitl [HxF]; · iexact HxF
    isplitl [HxB]; · iexact HxB
    isplitl [HtF] <;> iassumption

/-! ## The body -/

set_option backward.proofsInPublic true in
theorem all_tiles (c : Dev nD) : tiles c 3 (tiles c 2 (tiles c 1 (tiles c 0 ∅))) = Finset.univ := by
  revert c; decide

theorem offs_F (c : Dev nD) (t : Fin 3) : (c.val + 8 - t.val) % 4 = (back c t.val).val := by
  have := t.isLt; simp only [back]; omega
theorem off_l (c : Dev nD) : (c.val + 3) % 4 = (back c 1).val := rfl

set_option maxHeartbeats 1600000 in
theorem body_spec (c : Dev nD) (X Y : Vec F S1024x1024 .f32) (Kt : PUnit → sProp 𝕄) :
    iprop(env m K ∗ idle c 0 X Y ∗ inp m c ∗ bufAny wtF c ∗ bufAny wtB c ∗ bufAny xcF c ∗ bufAny xcB c ∗ bufAny tpF c ∗ bufAny tpB c ∗ out m c ∅
        ∗ (idle c 24 (srcF m 3 6 c) (srcB m 3 6 c) -∗ work m c 3 -∗ out m c Finset.univ -∗ Kt ⟨⟩))
      ⊢ runs c (body (F := F)) Kt := by
  unfold runs body
  simp only [Prog.lift, Prog.bind_op, Prog.bind_ret, wp_deviceId, wp_bind]
  iintro ⟨#HE, Hi, Hinp, HwF, HwB, HxF, HxB, HtF, HtB, Ho, Hk⟩
  iapply (hs_spec m K c 0 (by omega))
  isplitr; · iexact HE
  isplitl [Hi]; · iexact Hi
  iintro Hr
  iapply (first_prologue m K c X Y)
  isplitr; · iexact HE
  isplitl [Hr]; · iexact Hr
  isplitl [Hinp]; · iexact Hinp
  isplitl [HwF]; · iexact HwF
  isplitl [HwB]; · iexact HwB
  isplitl [HxF]; · iexact HxF
  isplitl [HxB]; · iexact HxB
  isplitl [HtF]; · iexact HtF
  isplitl [HtB]; · iexact HtB
  iintro Hr Hw
  iapply (ringPass_spec m K c 0 (by omega) ∅ _ _ _ _ _ _ _ _ (by rw [k0_off4_eq]; rfl) (by rw [k0_off5_eq]; rfl)
    (fun t => by rw [k0_off6_eq, offs_F]; rfl) (fun t => by rw [k0_off7_eq]; rfl))
  isplitr; · iexact HE
  isplitl [Hr]; · iexact Hr
  isplitl [Hw]; · iexact Hw
  isplitl [Ho]; · iexact Ho
  iintro Hi Hw Ho
  iapply (later_prologue m K c 1 0 1 5 rfl rfl 6 rfl)
  isplitr; · iexact HE
  isplitl [Hi]; · iexact Hi
  isplitl [Hw]; · iexact Hw
  iintro Hi Hw
  iapply (hs_spec m K c 6 (by omega))
  isplitr; · iexact HE
  isplitl [Hi]; · iexact Hi
  iintro Hr
  iapply (ringPass_spec m K c 1 (by omega) _ _ _ _ _ _ _ _ _ (by rw [k0_off8_eq]; rfl) (by rw [k0_off9_eq]; rfl)
    (fun t => by rw [k0_off10_eq, offs_F]; rfl) (fun t => by rw [k0_off11_eq]; rfl))
  isplitr; · iexact HE
  isplitl [Hr]; · iexact Hr
  isplitl [Hw]; · iexact Hw
  isplitl [Ho]; · iexact Ho
  iintro Hi Hw Ho
  iapply (later_prologue m K c 2 1 2 6 rfl rfl 12 rfl)
  isplitr; · iexact HE
  isplitl [Hi]; · iexact Hi
  isplitl [Hw]; · iexact Hw
  iintro Hi Hw
  iapply (hs_spec m K c 12 (by omega))
  isplitr; · iexact HE
  isplitl [Hi]; · iexact Hi
  iintro Hr
  iapply (ringPass_spec m K c 2 (by omega) _ _ _ _ _ _ _ _ _ (by rw [k0_off12_eq]; rfl) (by rw [k0_off13_eq]; rfl)
    (fun t => by rw [k0_off14_eq, offs_F]; rfl) (fun t => by rw [k0_off15_eq]; rfl))
  isplitr; · iexact HE
  isplitl [Hr]; · iexact Hr
  isplitl [Hw]; · iexact Hw
  isplitl [Ho]; · iexact Ho
  iintro Hi Hw Ho
  iapply (later_prologue m K c 3 2 3 7 rfl rfl 18 rfl)
  isplitr; · iexact HE
  isplitl [Hi]; · iexact Hi
  isplitl [Hw]; · iexact Hw
  iintro Hi Hw
  iapply (hs_spec m K c 18 (by omega))
  isplitr; · iexact HE
  isplitl [Hi]; · iexact Hi
  iintro Hr
  iapply (ringPass_spec m K c 3 (by omega) _ _ _ _ _ _ _ _ _ (by rw [k0_off16_eq]; rfl) (by rw [k0_off17_eq]; rfl)
    (fun t => by rw [k0_off18_eq, offs_F]; rfl) (fun t => by rw [k0_off19_eq]; rfl))
  isplitr; · iexact HE
  isplitl [Hr]; · iexact Hr
  isplitl [Hw]; · iexact Hw
  isplitl [Ho]; · iexact Ho
  iintro Hi Hw Ho
  rw [all_tiles c]
  iapply Hk $$ Hi Hw Ho

end Cert.RingProof

end
-- ==== Proof.Fund.lean ====
/-
What the ring starts from: every cell's invariant, each device's own positions, the tokens of the signals
and copies it will issue, and the credit for what it will be sent.
-/
module

public import proofs.«01_k».proof.Proof.Pass

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig ℕ (Elt F) ℕ UU ℕ

/-! ## The cells and the tokens -/

/-- Which cell of its device a semaphore is. -/
def cellOfRole : Role → CI
  | .sF k => some (0, k)
  | .rF k => some (1, k)
  | .sB k => some (2, k)
  | .rB k => some (3, k)
  | _ => none

theorem cellOfRole_csem (i : CI) : cellOfRole (role (csem i)) = i := by
  rcases i with _ | ⟨j, k⟩
  · show cellOfRole (role (.reg barS)) = none
    rw [role_bar]; rfl
  · fin_cases j
    · show cellOfRole (role (.dma (ssF k))) = some (0, k)
      rw [role_sF]; rfl
    · show cellOfRole (role (.dma (rsF k))) = some (1, k)
      rw [role_rF]; rfl
    · show cellOfRole (role (.dma (ssB k))) = some (2, k)
      rw [role_sB]; rfl
    · show cellOfRole (role (.dma (rsB k))) = some (3, k)
      rw [role_rB]; rfl

theorem kcell_injective : Function.Injective (kcell : Dev nD × CI → GSem nD τ sig) :=
  Function.LeftInverse.injective (g := fun g : GSem nD τ sig => (g.1.1, cellOfRole (role g.2)))
    fun x => Prod.ext rfl (cellOfRole_csem x.2)

def ringCells : Finset (GSem nD τ sig) := Finset.univ.map ⟨kcell, kcell_injective⟩

/-- The six duties device `c` pays at ring step `g`. -/
def tokOf (x : Dev nD × Fin 24 × Fin 6) : GSem nD τ sig × ℕ × Bool :=
  match x.2.2 with
  | 0 => (barC (prv x.1), x.2.1.val, true)
  | 1 => (barC (nxt x.1), x.2.1.val, false)
  | 2 => (sFC x.1 (par x.2.1.val), x.2.1.val / 2, false)
  | 3 => (rFC (nxt x.1) (par (x.2.1.val + 1)), x.2.1.val / 2, false)
  | 4 => (sBC x.1 (par x.2.1.val), x.2.1.val / 2, false)
  | 5 => (rBC (prv x.1) (par (x.2.1.val + 1)), x.2.1.val / 2, false)

/-- Whose duty a token is, at which ring step. -/
def payer (y : GSem nD τ sig × ℕ × Bool) : Dev nD × ℕ × Fin 6 :=
  match role y.1.2 with
  | .bar => if y.2.2 then (nxt y.1.1.1, y.2.1, 0) else (prv y.1.1.1, y.2.1, 1)
  | .sF k => (y.1.1.1, 2 * y.2.1 + k.val, 2)
  | .rF k => (prv y.1.1.1, 2 * y.2.1 + 1 - k.val, 3)
  | .sB k => (y.1.1.1, 2 * y.2.1 + k.val, 4)
  | .rB k => (nxt y.1.1.1, 2 * y.2.1 + 1 - k.val, 5)
  | .other => (0, 0, 0)

theorem payer_tokOf (c : Dev nD) (g : Fin 24) (j : Fin 6) : payer (tokOf (c, g, j)) = (c, g.val, j) := by
  have e1 : 2 * (g.val / 2) + g.val % 2 = g.val := by omega
  have e2 : 2 * (g.val / 2) + 1 - (g.val + 1) % 2 = g.val := by omega
  fin_cases j
  · show payer (barC (prv c), g.val, true) = _
    unfold payer; dsimp only; rw [role_bar]
    exact Prod.ext (nxt_prv c) rfl
  · show payer (barC (nxt c), g.val, false) = _
    unfold payer; dsimp only; rw [role_bar]
    exact Prod.ext (prv_nxt c) rfl
  · show payer (sFC c (par g.val), g.val / 2, false) = _
    unfold payer; dsimp only; rw [role_sF]
    exact Prod.ext rfl (Prod.ext e1 rfl)
  · show payer (rFC (nxt c) (par (g.val + 1)), g.val / 2, false) = _
    unfold payer; dsimp only; rw [role_rF]
    exact Prod.ext (prv_nxt c) (Prod.ext e2 rfl)
  · show payer (sBC c (par g.val), g.val / 2, false) = _
    unfold payer; dsimp only; rw [role_sB]
    exact Prod.ext rfl (Prod.ext e1 rfl)
  · show payer (rBC (prv c) (par (g.val + 1)), g.val / 2, false) = _
    unfold payer; dsimp only; rw [role_rB]
    exact Prod.ext (nxt_prv c) (Prod.ext e2 rfl)

theorem tokOf_injective : Function.Injective tokOf := by
  rintro ⟨c, g, j⟩ ⟨c', g', j'⟩ h
  have h' := congrArg payer h
  rw [payer_tokOf, payer_tokOf] at h'
  obtain ⟨h1, h2⟩ := Prod.mk.inj h'
  obtain ⟨h2, h3⟩ := Prod.mk.inj h2
  exact Prod.ext h1 (Prod.ext (Fin.ext h2) h3)

def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

omit [FloatOps F] in
theorem own_u₀ : (ownU u₀ : sProp 𝕄) ⊢ iprop(BI.own (EP (F := F) (initOf (Pipeline.cells cfgs cellOf_inj) (Pipeline.launchToks cfgs cellOf_inj)))
    ∗ BI.own (ER (F := F) (initOf ringCells ringToks))) :=
  BI.own_op_elim ((uEmb (nD := nD) (sig := sig) (Ix := ℕ) (Val := Elt F) (Name := ℕ) (U := UU) (Lvl := ℕ)).toEmb.op_of_mem
    (Prod.mk_mem_op (URA.mem_op_one _) (URA.mem_one_op (initOf ringCells ringToks, (1 : Counters)))))

/-! ## What a device holds -/

/-- The tokens of its duties at ring step `g`, -/
def dues (c : Dev nD) (g : ℕ) : sProp 𝕄 :=
  iprop((dutyTok ER (barC (prv c)) g true ∗ dutyTok ER (barC (nxt c)) g false)
    ∗ (dutyTok ER (sFC c (par g)) (g / 2) false ∗ dutyTok ER (rFC (nxt c) (par (g + 1))) (g / 2) false)
    ∗ dutyTok ER (sBC c (par g)) (g / 2) false ∗ dutyTok ER (rBC (prv c) (par (g + 1))) (g / 2) false)
/-- its positions and those tokens. -/
def seat (c : Dev nD) : sProp 𝕄 :=
  iprop((bigSep Finset.univ fun i : CI => atPos ER (kcell (c, i)) 0 ∅ 0) ∗ bigSep (Finset.Ico 0 24) (dues c))

variable (m : (ℓ : Loc nD τ sig) → Buf (Elt F) ℓ)

/-- What the launch element deals it. -/
def G (c : Dev nD) : sProp 𝕄 :=
  iprop((bigSep Finset.univ fun i : CI => roundState ER (Rd (F := F) m) (kcell (c, i)) 0)
    ∗ (bigSep Finset.univ fun i : CI => reached ER (kcell (c, i)) 0) ∗ seat c)

omit [FloatOps F] in
theorem over_cells (Φ : GSem nD τ sig → sProp 𝕄) :
    bigSep ringCells Φ = bigSep Finset.univ fun c : Dev nD => bigSep Finset.univ fun i : CI => Φ (kcell (c, i)) := by
  unfold ringCells; rw [bigSep_map, bigSep_univ_prod]; rfl

omit [FloatOps F] in
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem over_steps (Φ : ℕ → sProp 𝕄) : bigSep (Finset.Ico 0 24) Φ = bigSep Finset.univ fun g : Fin 24 => Φ g.val := by
  rw [show Finset.Ico 0 24 = (Finset.univ : Finset (Fin 24)).map Fin.valEmbedding by decide, bigSep_map]; rfl

omit [FloatOps F] in
theorem over_toks : bigSep ringToks (fun x => (dutyTok ER x.1 x.2.1 x.2.2 : sProp 𝕄))
    ⊢ bigSep Finset.univ fun c : Dev nD => bigSep (Finset.Ico 0 24) (dues (F := F) c) := by
  unfold ringToks
  rw [bigSep_map, bigSep_univ_prod]
  refine bigSep_mono fun c _ => ?_
  rw [over_steps, bigSep_univ_prod]
  refine bigSep_mono fun g _ => ?_
  rw [six]
  unfold dues
  show iprop(dutyTok ER (barC (prv c)) g.val true ∗ dutyTok ER (barC (nxt c)) g.val false
      ∗ dutyTok ER (sFC c (par g.val)) (g.val / 2) false ∗ dutyTok ER (rFC (nxt c) (par (g.val + 1))) (g.val / 2) false
      ∗ dutyTok ER (sBC c (par g.val)) (g.val / 2) false ∗ dutyTok ER (rBC (prv c) (par (g.val + 1))) (g.val / 2) false) ⊢ (_ : sProp 𝕄)
  iintro ⟨H0, H1, H2, H3, H4, H5⟩
  isplitl [H0 H1]
  · isplitl [H0]; · iexact H0
    iexact H1
  isplitl [H2 H3]
  · isplitl [H2]; · iexact H2
    iexact H3
  isplitl [H4]; · iexact H4
  iexact H5

theorem fund_ring : BI.own (ER (F := F) (initOf ringCells ringToks)) ⊢ (|==> bigSep Finset.univ (G (F := F) m) : sProp 𝕄) := by
  iintro HX
  imod (Rounds.fund ER (Rd (F := F) m) ringCells ringToks) $$ HX with ⟨Hst, Hr, Hat, Htok⟩
  imodintro
  ihave Hst' := (Entails.of_eq (over_cells fun g => roundState ER (Rd (F := F) m) g 0)) $$ Hst
  ihave Hat' := (Entails.of_eq (over_cells fun g => atPos ER g 0 ∅ 0)) $$ Hat
  ihave Hr' := (Entails.of_eq (over_cells fun g => reached ER g 0)) $$ Hr
  ihave Htok' := (over_toks (F := F)) $$ Htok
  unfold G seat; simp only [bigSep_sep']
  isplitl [Hst']; · iexact Hst'
  isplitl [Hr']; · iexact Hr'
  isplitl [Hat']; · iexact Hat'
  iexact Htok'

/-! ## The semaphores -/

abbrev osem (i : Fin 14) : SemLoc sig := .dma i
theorem ownSemFacts : Pipeline.OwnSemFacts cfg0.spec osem := by decide

/-- The local copies' semaphores, at zero. -/
def locals (c : Dev nD) : sProp 𝕄 :=
  iprop(semVal ((c : Thread nD τ), .dma (ldS 0)) 0 ∗ semVal ((c : Thread nD τ), .dma (ldS 1)) 0
    ∗ semVal ((c : Thread nD τ), .dma (ldS 2)) 0 ∗ semVal ((c : Thread nD τ), .dma (ldS 3)) 0
    ∗ semVal ((c : Thread nD τ), .dma (stS 0)) 0 ∗ semVal ((c : Thread nD τ), .dma (stS 1)) 0)

/-- Device `c`'s ring cells at zero. -/
def zeros (c : Dev nD) : sProp 𝕄 :=
  iprop(semVal (sFC c 0) 0 ∗ semVal (sFC c 1) 0 ∗ semVal (rFC c 0) 0 ∗ semVal (rFC c 1) 0
    ∗ semVal (sBC c 0) 0 ∗ semVal (sBC c 1) 0 ∗ semVal (rBC c 0) 0 ∗ semVal (rBC c 1) 0)

omit [FloatOps F] in
theorem ownSems0_eq (c : Dev nD) : (Pipeline.ownSems0 (Ix := ℕ) (Name := ℕ) (U := UU) (Lvl := ℕ) (Val := Elt F) (τ := τ) osem c : sProp 𝕄)
    = iprop(semVal (sFC c 0) 0 ∗ semVal (sFC c 1) 0 ∗ semVal (rFC c 0) 0 ∗ semVal (rFC c 1) 0
    ∗ semVal (sBC c 0) 0 ∗ semVal (sBC c 1) 0 ∗ semVal (rBC c 0) 0 ∗ semVal (rBC c 1) 0
    ∗ semVal ((c : Thread nD τ), .dma (ldS 0)) 0 ∗ semVal ((c : Thread nD τ), .dma (ldS 1)) 0
    ∗ semVal ((c : Thread nD τ), .dma (ldS 2)) 0 ∗ semVal ((c : Thread nD τ), .dma (ldS 3)) 0
    ∗ semVal ((c : Thread nD τ), .dma (stS 0)) 0 ∗ semVal ((c : Thread nD τ), .dma (stS 1)) 0) := by
  rw [Pipeline.ownSems0_eq_of_list c osem [0, 1, 2, 3, 4, 5, 6, 7, 8, 9, 10, 11, 12, 13] (by decide) (by decide)]; rfl

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem nine (Φ : CI → sProp 𝕄) : bigSep Finset.univ Φ
    = iprop(Φ none ∗ Φ (some (0, 0)) ∗ Φ (some (0, 1)) ∗ Φ (some (1, 0)) ∗ Φ (some (1, 1))
        ∗ Φ (some (2, 0)) ∗ Φ (some (2, 1)) ∗ Φ (some (3, 0)) ∗ Φ (some (3, 1))) :=
  bigSep_univ_eq_bigSepL [none, some (0, 0), some (0, 1), some (1, 0), some (1, 1), some (2, 0), some (2, 1), some (3, 0), some (3, 1)]
    (by decide) (by decide) Φ

omit [FloatOps F] in
theorem sems_eq (c : Dev nD) :
    iprop(Pipeline.ownSems0 (Ix := ℕ) (Name := ℕ) (U := UU) (Lvl := ℕ) (Val := Elt F) (τ := τ) osem c ∗ unscopedSems0 c)
      ⊢ (iprop((bigSep Finset.univ fun i : CI => semVal (kcell (c, i)) 0) ∗ locals c) : sProp 𝕄) := by
  rw [ownSems0_eq, unscopedSems0_eq, nine]
  unfold locals
  iintro ⟨⟨H0, H1, H2, H3, H4, H5, H6, H7, HL⟩, HB⟩
  isplitl [H0 H1 H2 H3 H4 H5 H6 H7 HB]
  · isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HL

/-! ## The invariants -/

/-- Every cell's invariant, and that its first round is reached. -/
def records (K : Dev nD × CI → ℕ) : sProp 𝕄 :=
  iprop((bigSep Finset.univ fun x => cellInv ER (Rd (F := F) m) (K x) (kcell x)) ∗ bigSep Finset.univ fun x : Dev nD × CI => reached ER (kcell x) 0)

instance records_persistent (K : Dev nD × CI → ℕ) : BI.Persistent (records (F := F) m K) := by unfold records; infer_instance

/-- What device `c` has after the cells are allocated. -/
def G' (c : Dev nD) : sProp 𝕄 := iprop(∃ K, records m K ∗ seat c ∗ locals c)

theorem alloc : iprop(bigSep ringCells (fun g => (semVal g 0 : sProp 𝕄)) ∗ bigSep ringCells fun g => roundState ER (Rd (F := F) m) g 0)
    ⊢ |={Set.univ}=> iprop(∃ κ : GSem nD τ sig → ℕ, bigSep ringCells fun g => cellInv ER (Rd (F := F) m) (κ g) g) := by
  refine (Rounds.bodies_intro ER (Rd (F := F) m) ringCells).trans ((inv_alloc_family ringCells (Rounds.body ER (Rd (F := F) m)) ∅ (E := Set.univ)).trans ?_)
  iintro H
  imod H with ⟨%κ, -, H⟩
  imodintro; iexists κ; iexact H

omit [FloatOps F] in
/-- A persistent fact is there for every summand. -/
theorem to_each {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem glob : (bigSep Finset.univ fun c => iprop(Pipeline.ownSems0 (Ix := ℕ) (Name := ℕ) (U := UU) (Lvl := ℕ) (Val := Elt F) (τ := τ) osem c ∗ unscopedSems0 c ∗ G (F := F) m c) : sProp 𝕄)
    ⊢ |={Set.univ}=> bigSep Finset.univ (G' (F := F) m) := by
  have h : ∀ c : Dev nD, iprop(Pipeline.ownSems0 (Ix := ℕ) (Name := ℕ) (U := UU) (Lvl := ℕ) (Val := Elt F) (τ := τ) osem c ∗ unscopedSems0 c ∗ G (F := F) m c)
      ⊢ (iprop((bigSep Finset.univ fun i : CI => semVal (kcell (c, i)) 0) ∗ (bigSep Finset.univ fun i : CI => roundState ER (Rd (F := F) m) (kcell (c, i)) 0)
        ∗ (bigSep Finset.univ fun i : CI => reached ER (kcell (c, i)) 0) ∗ (seat c ∗ locals c)) : sProp 𝕄) := by
    intro c
    unfold G
    iintro ⟨Ho, Hu, Hst, Hr, Hs⟩
    ihave H := (sems_eq (F := F) c) $$ [Ho Hu]
    · isplitl [Ho] <;> iassumption
    icases H with ⟨Hv, Hl⟩
    isplitl [Hv]; · iexact Hv
    isplitl [Hst]; · iexact Hst
    isplitl [Hr]; · iexact Hr
    isplitl [Hs] <;> iassumption
  refine (bigSep_mono fun c _ => h c).trans ?_
  rw [bigSep_sep', bigSep_sep', bigSep_sep', ← over_cells (F := F) (fun g => semVal g 0), ← over_cells (F := F) (fun g => roundState ER (Rd (F := F) m) g 0),
    ← bigSep_univ_prod (fun x : Dev nD × CI => (reached ER (kcell x) 0 : sProp 𝕄))]
  show iprop(_ ∗ _ ∗ _ ∗ _) ⊢ (_ : sProp 𝕄)
  iintro ⟨Hv, Hst, #HR, Hs⟩
  imod (alloc (F := F) m) $$ [Hv Hst] with ⟨%κ, HI⟩
  · isplitl [Hv] <;> iassumption
  imodintro
  ihave HI := (Entails.of_eq ((over_cells fun g => cellInv ER (Rd (F := F) m) (κ g) g).trans
    (bigSep_univ_prod (fun x : Dev nD × CI => (cellInv ER (Rd (F := F) m) (κ (kcell x)) (kcell x) : sProp 𝕄))).symm)) $$ HI
  icases HI with #HI
  iapply (to_each (R := records (F := F) m fun x => κ (kcell x)) (Φ := fun c : Dev nD => iprop(seat (F := F) c ∗ locals c)) fun c => by
    unfold G'
    iintro ⟨H1, H2⟩
    iexists _
    isplitl [H1] <;> iassumption)
  isplitr
  · unfold records
    isplitr; · iexact HI
    iexact HR
  iexact Hs

/-! ## The credit -/

/-- What device `c` is sent at ring step `g`. -/
def creds (c : Dev nD) (g : ℕ) : sProp 𝕄 :=
  iprop(cred (tallyAt (barC c) (g + 1) 2) ∗ cred (tallyAt (rFC c (par (g + 1))) (g + 1) N) ∗ cred (tallyAt (rBC c (par (g + 1))) (g + 1) N))

omit [FloatOps F] in
theorem step_cred (c : Dev nD) (g : ℕ) : (Pipeline.launchCred (fun d => owStep d g) c : sProp 𝕄) ⊢ creds c g := by
  have e : (fun d : Dev nD => owStep d g)
      = fun d => ((tallyAt (((prv d).tc : Thread nD τ), .dma (rsB (par (g + 1)))) (g + 1) N + tallyAt (((nxt d).tc : Thread nD τ), .dma (rsF (par (g + 1)))) (g + 1) N)
          + tallyAt (((nxt d).tc : Thread nD τ), .reg barS) (g + 1) 1) + tallyAt (((prv d).tc : Thread nD τ), .reg barS) (g + 1) 1 := rfl
  rw [e, Pipeline.launchCred_add, Pipeline.launchCred_add, Pipeline.launchCred_add]
  unfold creds
  iintro ⟨⟨⟨HB, HF⟩, H1⟩, H2⟩
  ihave HB := (Pipeline.launchCred_tallyAt (.dma (rsB (par (g + 1)))) prv nxt prv_nxt nxt_prv (g + 1) N c) $$ HB
  ihave HF := (Pipeline.launchCred_tallyAt (.dma (rsF (par (g + 1)))) nxt prv nxt_prv prv_nxt (g + 1) N c) $$ HF
  ihave H1 := (Pipeline.launchCred_tallyAt (.reg barS) nxt prv nxt_prv prv_nxt (g + 1) 1 c) $$ H1
  ihave H2 := (Pipeline.launchCred_tallyAt (.reg barS) prv nxt prv_nxt nxt_prv (g + 1) 1 c) $$ H2
  isplitl [H1 H2]
  · rw [show (tallyAt (barC c) (g + 1) 2 : CellTallies nD τ sig ℕ) = tallyAt (barC c) (g + 1) 1 + tallyAt (barC c) (g + 1) 1 from (tallyAt_add _ _ 1 1).symm]
    iapply (cred_add _ _).2
    isplitl [H1] <;> iassumption
  isplitl [HF] <;> iassumption

omit [FloatOps F] in
theorem all_creds (c : Dev nD) : (Pipeline.launchCred (fun d => ow d 0) c : sProp 𝕄) ⊢ bigSep (Finset.Ico 0 24) (creds c) := by
  rw [show (fun d : Dev nD => ow d 0) = fun d => ∑ j ∈ Finset.Ico 0 24, owStep d j from rfl,
    Pipeline.launchCred_sum (Finset.Ico 0 24) (fun j d => owStep d j) c]
  exact bigSep_mono fun g _ => step_cred c g

omit [FloatOps F] in
theorem all_tokens (c : Dev nD) : iprop(bigSep (Finset.Ico 0 24) (dues (F := F) c) ∗ bigSep (Finset.Ico 0 24) (creds c)) ⊢ bigSep (Finset.Ico 0 24) (tokens c) := by
  rw [← bigSep_sep']
  refine bigSep_mono fun g _ => ?_
  unfold dues creds tokens tokBar tokF tokB
  show iprop(_ ∗ _) ⊢ (_ : sProp 𝕄)
  iintro ⟨⟨⟨H0, H1⟩, ⟨H2, H3⟩, H4, H5⟩, C0, C1, C2⟩
  isplitl [H0 H1 C0]
  · isplitl [H0]; · iexact H0
    isplitl [H1] <;> iassumption
  isplitl [H2 H3 C1]
  · isplitl [H2]; · iexact H2
    isplitl [H3] <;> iassumption
  isplitl [H4]; · iexact H4
  isplitl [H5] <;> iassumption

/-- A device's ghost state as the body starts. -/
theorem ring_start (K : Dev nD × CI → ℕ) (c : Dev nD) :
    iprop(records (F := F) m K ∗ levAts L lv ∗ seat c ∗ bigSep (Finset.Ico 0 24) (creds c)) ⊢ iprop(env m K ∗ BT c 0 ∗ F0 c 0 ∗ B0 c 0) := by
  have hr : ∀ x : Dev nD × CI, (bigSep Finset.univ fun x : Dev nD × CI => (reached ER (kcell x) 0 : sProp 𝕄)) ⊢ reached ER (kcell x) 0 :=
    fun x => bigSep_elim (Finset.mem_univ x)
  unfold records seat
  rw [nine]
  iintro ⟨⟨#HI, #HR⟩, #HL, ⟨⟨A0, A1, A2, A3, A4, A5, A6, A7, A8⟩, HD⟩, HC⟩
  isplitr
  · unfold env
    isplitr; · iexact HI
    iexact HL
  isplitl [A0 HD HC]
  · unfold BT here
    isplitl [A0]
    · isplitl [A0]; · iexact A0
      iapply (hr (c, none)); iexact HR
    iapply (all_tokens c)
    isplitl [HD] <;> iassumption
  isplitl [A1 A2 A3 A4]
  · unfold F0 atF here
    isplitl
    · isplitl [A1]
      · isplitl [A1]; · iexact A1
        iapply (hr (c, some (0, 0))); iexact HR
      isplitl [A4]
      · isplitl [A4]; · iexact A4
        iapply (hr (c, some (1, 1))); iexact HR
      isplitl [A2]
      · isplitl [A2]; · iexact A2
        iapply (hr (c, some (0, 1))); iexact HR
      isplitl [A3]; · iexact A3
      iapply (hr (c, some (1, 0))); iexact HR
    iapply (hr (prv c, none)); iexact HR
  unfold B0 atB here
  isplitl
  · isplitl [A5]
    · isplitl [A5]; · iexact A5
      iapply (hr (c, some (2, 0))); iexact HR
    isplitl [A8]
    · isplitl [A8]; · iexact A8
      iapply (hr (c, some (3, 1))); iexact HR
    isplitl [A6]
    · isplitl [A6]; · iexact A6
      iapply (hr (c, some (2, 1))); iexact HR
    isplitl [A7]; · iexact A7
    iapply (hr (c, some (3, 0))); iexact HR
  iapply (hr (nxt c, none)); iexact HR

/-- A cell past its last round is closed: its counter is at zero. -/
theorem close_cell (K : Dev nD × CI → ℕ) (x : Dev nD × CI) (R : ℕ) (h : ∀ r, R ≤ r → (Rd (F := F) m).duties (kcell x) r = ∅) :
    iprop(env m K ∗ here (kcell x) R) ⊢ iprop(|={Set.univ}=> semVal (kcell x) 0) := by
  unfold here
  iintro ⟨HE, Ha, -⟩
  ihave HI := (inv_at m K x) $$ HE
  iapply (Rounds.cell_close ER (Rd (F := F) m) (Set.mem_univ (K x)) (fun h => h) (R := R) h)
  isplitl [HI] <;> iassumption

theorem close_all (K : Dev nD × CI → ℕ) (c : Dev nD) :
    iprop(env m K ∗ here (barC c) 24 ∗ atF c 24 ∗ atB c 24) ⊢ iprop(|={Set.univ}=> (semVal (barC c) 0 ∗ zeros c)) := by
  unfold atF atB
  iintro ⟨#HE, A0, ⟨A1, A4, A2, A3⟩, A5, A8, A6, A7⟩
  imod (close_cell m K (c, none) 24 (late_bar m c)) $$ [A0] with A0
  · isplitr; · iexact HE
    iexact A0
  imod (close_cell m K (c, some (0, 0)) 12 (late_sF m c 0)) $$ [A1] with A1
  · isplitr; · iexact HE
    iexact A1
  imod (close_cell m K (c, some (0, 1)) 12 (late_sF m c 1)) $$ [A2] with A2
  · isplitr; · iexact HE
    iexact A2
  imod (close_cell m K (c, some (1, 0)) 12 (late_rF m c 0)) $$ [A3] with A3
  · isplitr; · iexact HE
    iexact A3
  imod (close_cell m K (c, some (1, 1)) 12 (late_rF m c 1)) $$ [A4] with A4
  · isplitr; · iexact HE
    iexact A4
  imod (close_cell m K (c, some (2, 0)) 12 (late_sB m c 0)) $$ [A5] with A5
  · isplitr; · iexact HE
    iexact A5
  imod (close_cell m K (c, some (2, 1)) 12 (late_sB m c 1)) $$ [A6] with A6
  · isplitr; · iexact HE
    iexact A6
  imod (close_cell m K (c, some (3, 0)) 12 (late_rB m c 0)) $$ [A7] with A7
  · isplitr; · iexact HE
    iexact A7
  imod (close_cell m K (c, some (3, 1)) 12 (late_rB m c 1)) $$ [A8] with A8
  · isplitr; · iexact HE
    iexact A8
  imodintro
  unfold zeros
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  iexact A8

end Cert.RingProof

end
-- ==== Proof.Start.lean ====
/-
The kernel from its launch to its end: the buffers cut into what the body wants of them and put back
together after it, and the run's post — the arguments unchanged, every semaphore at zero, and each of the
32 tiles of a device's result at the contents its pass stores there.
-/
module

public import proofs.«01_k».proof.Proof.Fund
public import Idealize.ShloMosaic.Lib.Ring
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## The two slots of a communication buffer -/

theorem slotR_disjoint (k l : Fin 2) (h : k ≠ l) : Disjoint (slotR k).set (slotR l).set := by
  rw [Finset.disjoint_left]
  intro i hi hj
  have h1 := Rect.mem_set_unit.mp hi 0
  have h2 := Rect.mem_set_unit.mp hj 0
  change k.val ≤ (i 0).val ∧ (i 0).val < k.val + 1 at h1
  change l.val ≤ (i 0).val ∧ (i 0).val < l.val + 1 at h2
  exact h (Fin.ext (by omega))

theorem slotR_cover : Finset.univ.biUnion (fun k : Fin 2 => (slotR k).set) = Finset.univ := by
  refine Finset.eq_univ_iff_forall.mpr fun i => Finset.mem_biUnion.mpr ⟨⟨(i 0).val, (i 0).isLt⟩, Finset.mem_univ _, Rect.mem_set_unit.mpr fun a => ?_⟩
  fin_cases a
  · exact ⟨le_refl (i 0).val, Nat.lt_succ_self (i 0).val⟩
  · exact ⟨Nat.zero_le (i 1).val, by show (i 1).val < 0 + 1024; rw [Nat.zero_add]; exact (i 1).isLt⟩
  · exact ⟨Nat.zero_le (i 2).val, by show (i 2).val < 0 + 1024; rw [Nat.zero_add]; exact (i 2).isLt⟩

theorem slot_setF (k : Fin 2) : (slot cmF k).view.set = (slotR k).set := (slot_set cmF k).trans (View.set_slice_whole _ _)
theorem slot_setB (k : Fin 2) : (slot cmB k).view.set = (slotR k).set := (slot_set cmB k).trans (View.set_slice_whole _ _)

omit [FloatOps F] in
theorem two (Φ : Fin 2 → sProp 𝕄) : bigSep Finset.univ Φ = iprop(Φ 0 ∗ Φ 1) :=
  bigSep_univ_eq_bigSepL [0, 1] (by decide) (by decide) Φ

omit [FloatOps F] in
theorem splitF (c : Dev nD) (f : Buf (Elt F) ((c : Thread nD τ).loc cc0_scratch0)) :
    (((c : Thread nD τ).loc cc0_scratch0) ↦{fullShare} f : sProp 𝕄) ⊢ iprop(slotAny cmF c 1 ∗ ∃ X, slotIs cmF c 0 X) := by
  rw [Ring.pointsTo_blocks (fun k : Fin 2 => (slotR k).set) slotR_disjoint slotR_cover f, two]
  unfold slotAny slotIs
  iintro ⟨H0, H1⟩
  isplitl [H1]
  · iexists f; rw [slot_setF 1]; iexact H1
  iexists _; iexists f
  isplitr; · ipureintro; rfl
  rw [slot_setF 0]; iexact H0

omit [FloatOps F] in
theorem splitB (c : Dev nD) (f : Buf (Elt F) ((c : Thread nD τ).loc cc0_scratch1)) :
    (((c : Thread nD τ).loc cc0_scratch1) ↦{fullShare} f : sProp 𝕄) ⊢ iprop(slotAny cmB c 1 ∗ ∃ X, slotIs cmB c 0 X) := by
  rw [Ring.pointsTo_blocks (fun k : Fin 2 => (slotR k).set) slotR_disjoint slotR_cover f, two]
  unfold slotAny slotIs
  iintro ⟨H0, H1⟩
  isplitl [H1]
  · iexists f; rw [slot_setB 1]; iexact H1
  iexists _; iexists f
  isplitr; · ipureintro; rfl
  rw [slot_setB 0]; iexact H0

omit [FloatOps F] in
theorem joinF (c : Dev nD) : iprop(slotAny (F := F) cmF c 1 ∗ slotAny cmF c 0)
    ⊢ iprop(∃ f : Buf (Elt F) ((c : Thread nD τ).loc cc0_scratch0), ((c : Thread nD τ).loc cc0_scratch0) ↦{fullShare} f) := by
  unfold slotAny
  iintro ⟨⟨%f, H1⟩, ⟨%g, H0⟩⟩
  iapply (Ring.pointsTo_blocks_join_exists (fun k : Fin 2 => (slotR k).set) slotR_disjoint slotR_cover f)
  rw [two]
  isplitl [H0]
  · iexists g; rw [← slot_setF 0]; iexact H0
  iexists f; rw [← slot_setF 1]; iexact H1

omit [FloatOps F] in
theorem joinB (c : Dev nD) : iprop(slotAny (F := F) cmB c 1 ∗ slotAny cmB c 0)
    ⊢ iprop(∃ f : Buf (Elt F) ((c : Thread nD τ).loc cc0_scratch1), ((c : Thread nD τ).loc cc0_scratch1) ↦{fullShare} f) := by
  unfold slotAny
  iintro ⟨⟨%f, H1⟩, ⟨%g, H0⟩⟩
  iapply (Ring.pointsTo_blocks_join_exists (fun k : Fin 2 => (slotR k).set) slotR_disjoint slotR_cover f)
  rw [two]
  isplitl [H0]
  · iexists g; rw [← slot_setB 0]; iexact H0
  iexists f; rw [← slot_setB 1]; iexact H1

/-! ## The tiles of the result -/

/-- The rectangle of tile `t`. -/
abbrev tileR (t : Dev nD × Fin 8) : Rect S4096x8192 := Rect.unit (s := S4096x8192) ![1024 * t.1.val, 1024 * t.2.val] S1024x1024.size (o_inb t.1 t.2)

theorem tileR_disjoint (t u : Dev nD × Fin 8) (h : t ≠ u) : Disjoint (tileR t).set (tileR u).set := by
  rw [Finset.disjoint_left]
  intro i hi hj
  have h1 := Rect.mem_set_unit.mp hi 0
  have h2 := Rect.mem_set_unit.mp hj 0
  have h3 := Rect.mem_set_unit.mp hi 1
  have h4 := Rect.mem_set_unit.mp hj 1
  change 1024 * t.1.val ≤ (i 0).val ∧ (i 0).val < 1024 * t.1.val + 1024 at h1
  change 1024 * u.1.val ≤ (i 0).val ∧ (i 0).val < 1024 * u.1.val + 1024 at h2
  change 1024 * t.2.val ≤ (i 1).val ∧ (i 1).val < 1024 * t.2.val + 1024 at h3
  change 1024 * u.2.val ≤ (i 1).val ∧ (i 1).val < 1024 * u.2.val + 1024 at h4
  exact h (Prod.ext (Fin.ext (by omega)) (Fin.ext (by omega)))

/-- The tile an element lies in. -/
def tileOf (i : S4096x8192.Idx) : Dev nD × Fin 8 :=
  (⟨(i 0).val / 1024, by have h : (i 0).val < 4096 := (i 0).isLt; show (i 0).val / 1024 < 4; omega⟩,
    ⟨(i 1).val / 1024, by have h : (i 1).val < 8192 := (i 1).isLt; omega⟩)

theorem mem_tileOf (i : S4096x8192.Idx) : i ∈ (tileR (tileOf i)).set := by
  refine Rect.mem_set_unit.mpr fun a => ?_
  fin_cases a
  · show 1024 * ((i 0).val / 1024) ≤ (i 0).val ∧ (i 0).val < 1024 * ((i 0).val / 1024) + 1024
    omega
  · show 1024 * ((i 1).val / 1024) ≤ (i 1).val ∧ (i 1).val < 1024 * ((i 1).val / 1024) + 1024
    omega

theorem tileR_cover : Finset.univ.biUnion (fun t : Dev nD × Fin 8 => (tileR t).set) = Finset.univ :=
  Finset.eq_univ_iff_forall.mpr fun i => Finset.mem_biUnion.mpr ⟨tileOf i, Finset.mem_univ _, mem_tileOf i⟩

theorem oT_set (t : Dev nD × Fin 8) : (oT t).view.set = (tileR t).set := View.set_slice_whole _ _

theorem splitO (c : Dev nD) (f : Buf (Elt F) ((c : Thread nD τ).loc main_v1)) :
    (((c : Thread nD τ).loc main_v1) ↦{fullShare} f : sProp 𝕄) ⊢ bigSep Finset.univ (outAt m c ∅) := by
  rw [Ring.pointsTo_blocks (fun t : Dev nD × Fin 8 => (tileR t).set) tileR_disjoint tileR_cover f]
  refine bigSep_mono fun t _ => ?_
  unfold outAt
  rw [oT_set t]
  show (_ : sProp 𝕄) ⊢ iprop(∃ _, _)
  iintro H
  iexists f
  isplitr; · ipureintro; exact fun h => absurd h (Finset.notMem_empty t)
  iexact H

/-- Contents that agree on a tile's elements read the same through it. -/
theorem read_congr (t : Dev nD × Fin 8) (f g : mO.view.ty.Contents (Elt F)) (h : ∀ i ∈ (tileR t).set, g i = f i) :
    (oT t).view.read (Elt F) g = (oT t).view.read (Elt F) f := by
  funext j
  exact h _ (by rw [← oT_set t]; exact View.emb_mem_set _ j)

/-- The whole result, every tile at its contents. -/
def done (g : mO.view.ty.Contents (Elt F)) : Prop := ∀ t, (oT t).view.read (Elt F) g = res m t

theorem joinO (c : Dev nD) : bigSep Finset.univ (outAt m c Finset.univ)
    ⊢ (iprop(∃ g : Buf (Elt F) ((c : Thread nD τ).loc main_v1), ⌜done m g⌝ ∗ (((c : Thread nD τ).loc main_v1) ↦{fullShare} g)) : sProp 𝕄) := by
  have hn : Nonempty (Buf (Elt F) ((c : Thread nD τ).loc main_v1)) := ⟨m ((c : Thread nD τ).loc main_v1)⟩
  have e : bigSep Finset.univ (outAt m c Finset.univ) = bigSep Finset.univ fun t : Dev nD × Fin 8 =>
      iprop(∃ f : Buf (Elt F) ((c : Thread nD τ).loc main_v1), ⌜(oT t).view.read (Elt F) f = res m t⌝ ∗ (((c : Thread nD τ).loc main_v1) ↦[(tileR t).set]{fullShare} f) : sProp 𝕄) := by
    refine bigSep_congr fun t _ => ?_
    unfold outAt
    rw [oT_set t]
    simp only [Finset.mem_univ, forall_const]
  rw [e]
  iintro H
  ihave H := (Idealize.SL.BI.bigSep_exists_pi Finset.univ (fun (t : Dev nD × Fin 8) (f : Buf (Elt F) ((c : Thread nD τ).loc main_v1)) =>
    (iprop(⌜(oT t).view.read (Elt F) f = res m t⌝ ∗ (((c : Thread nD τ).loc main_v1) ↦[(tileR t).set]{fullShare} f)) : sProp 𝕄))) $$ H
  icases H with ⟨%fs, H⟩
  ihave H := (bigSep_pure_sep Finset.univ (fun t : Dev nD × Fin 8 => (oT t).view.read (Elt F) (fs t) = res m t)
    (fun t => (((c : Thread nD τ).loc main_v1) ↦[(tileR t).set]{fullShare} fs t : sProp 𝕄))) $$ H
  icases H with ⟨%hr, H⟩
  ihave H := (pointsTo_biUnion_join Finset.univ (fun t : Dev nD × Fin 8 => (tileR t).set) fs (m ((c : Thread nD τ).loc main_v1))
    (fun t _ u _ h => tileR_disjoint t u h)) $$ H
  icases H with ⟨%g, %hg, H⟩
  rw [tileR_cover]
  iexists g
  isplitr
  · ipureintro
    exact fun t => (read_congr t (fs t) g (hg t (Finset.mem_univ t))).trans (hr t (Finset.mem_univ t))
  iexact H

/-! ## The invariant of the one point -/

/-- The three arrays as launched; -/
def arrays₀ (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1)))
/-- and at the end. -/
def arrays₁ (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ ∃ g : Buf (Elt F) ((c : Thread nD τ).loc main_v1), ⌜done m g⌝ ∗ (((c : Thread nD τ).loc main_v1) ↦{fullShare} g))

def start (c : Dev nD) : sProp 𝕄 :=
  iprop(G' m c ∗ levAts L lv ∗ bigSep (Finset.Ico 0 24) (creds c) ∗ arrays₀ m c)
def Φ₀ (c : Dev nD) : sProp 𝕄 := iprop(start m c ∗ Pipeline.scopedRest cfg0.spec c)
def Φ₁ (c : Dev nD) : sProp 𝕄 :=
  iprop((unscopedSems0 c ∗ arrays₁ m c) ∗ Pipeline.ownSems0 osem c ∗ Pipeline.scopedRest cfg0.spec c)

def dats (_ : Fin 1) (c : Dev nD) : Dat τ (Elt F) ℕ ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => ow c 0
    | ⟨_ + 1, _⟩ => 0

/-- What the body is entered with. -/
def entry (K : Dev nD × CI → ℕ) (c : Dev nD) (X Y : Vec F S1024x1024 .f32) : sProp 𝕄 :=
  iprop(idle c 0 X Y ∗ inp m c ∗ bufAny wtF c ∗ bufAny wtB c ∗ bufAny xcF c ∗ bufAny xcB c ∗ bufAny tpF c ∗ bufAny tpB c ∗ out m c ∅)

omit [FloatOps F] in
theorem any_whole (b : Ref sig .tc) (c : Dev nD) : (iprop(∃ f : Buf (Elt F) ((c : Thread nD τ).loc b), ((c : Thread nD τ).loc b) ↦{fullShare} f) : sProp 𝕄)
    = iprop(∃ f : Buf (Elt F) ((c : Thread nD τ).loc b), ((c : Thread nD τ).loc b) ↦[(Memref.whole b : Memref sig .tc _ _ _).view.set]{fullShare} f) := by
  rw [show (Memref.whole b : Memref sig .tc _ _ _).view.set = Finset.univ from View.set_whole b]

theorem enter (c : Dev nD) : iprop(owesE c (ow c 0) ∗ Φ₀ m c) ⊢ iprop(∃ K X Y, env m K ∗ entry m K c X Y) := by
  unfold Φ₀ start G' arrays₀ locals
  rw [scopedRest0_eq, any_whole cc0_scratch2, any_whole cc0_scratch3, any_whole cc0_scratch4, any_whole cc0_scratch5, any_whole cc0_scratch6, any_whole cc0_scratch7]
  iintro ⟨HO, ⟨⟨%K, HR, Hseat, HL0, HL1, HL2, HL3, HS0, HS1⟩, Hlev, Hcr, Hx, Hw, Ho⟩, ⟨%f0, H0⟩, ⟨%f1, H1⟩, H2, H3, H4, H5, H6, H7⟩
  ihave H := (ring_start m K c) $$ [HR Hlev Hseat Hcr]
  · isplitl [HR]; · iexact HR
    isplitl [Hlev]; · iexact Hlev
    isplitl [Hseat] <;> iassumption
  icases H with ⟨HE, HBT, HF, HB⟩
  ihave H0 := (splitF c f0) $$ H0
  icases H0 with ⟨H01, %X, H00⟩
  ihave H1 := (splitB c f1) $$ H1
  icases H1 with ⟨H11, %Y, H10⟩
  ihave Hx := (pointsTo_share (PosShare.mem_left_op_right fullShare)).1 $$ Hx
  icases Hx with ⟨Hxl, Hxr⟩
  ihave Hw := (pointsTo_share (PosShare.mem_left_op_right fullShare)).1 $$ Hw
  icases Hw with ⟨Hwl, Hwr⟩
  iexists K; iexists X; iexists Y
  isplitl [HE]; · iexact HE
  unfold entry idle inp out bufAny
  isplitl [HO HBT HF HB H01 H11 H00 H10]
  · isplitl [HO]; · iexact HO
    isplitl [HBT]; · iexact HBT
    isplitl [HF]; · iexact HF
    isplitl [HB]; · iexact HB
    isplitl [H01]; · iexact H01
    isplitl [H11]; · iexact H11
    isplitl [H00]; · iexact H00
    iexact H10
  isplitl [Hxl Hxr Hwl Hwr HL0 HL1 HL2 HL3]
  · isplitl [Hxl]; · iexact Hxl
    isplitl [Hxr]; · iexact Hxr
    isplitl [Hwl]; · iexact Hwl
    isplitl [Hwr]; · iexact Hwr
    isplitl [HL0]; · iexact HL0
    isplitl [HL1]; · iexact HL1
    isplitl [HL2]; · iexact HL2
    iexact HL3
  isplitl [H2]; · iexact H2
  isplitl [H3]; · iexact H3
  isplitl [H4]; · iexact H4
  isplitl [H5]; · iexact H5
  isplitl [H6]; · iexact H6
  isplitl [H7]; · iexact H7
  isplitl [Ho]; · iapply (splitO m c _) $$ Ho
  isplitl [HS0] <;> iassumption

theorem leave (K : Dev nD × CI → ℕ) (c : Dev nD) (X Y : Vec F S1024x1024 .f32) :
    iprop(env m K ∗ idle c 24 X Y ∗ work m c 3 ∗ out m c Finset.univ) ⊢ iprop(|={Set.univ}=> (owesE c 0 ∗ Φ₁ m c)) := by
  have e2 : (bufAny (F := F) wtF c) ⊢ iprop(∃ f : Buf (Elt F) ((c : Thread nD τ).loc cc0_scratch2), ((c : Thread nD τ).loc cc0_scratch2) ↦{fullShare} f) :=
    Entails.of_eq (any_whole cc0_scratch2 c).symm
  have e3 : (bufAny (F := F) wtB c) ⊢ iprop(∃ f : Buf (Elt F) ((c : Thread nD τ).loc cc0_scratch3), ((c : Thread nD τ).loc cc0_scratch3) ↦{fullShare} f) :=
    Entails.of_eq (any_whole cc0_scratch3 c).symm
  have e4 : (bufAny (F := F) xcF c) ⊢ iprop(∃ f : Buf (Elt F) ((c : Thread nD τ).loc cc0_scratch4), ((c : Thread nD τ).loc cc0_scratch4) ↦{fullShare} f) :=
    Entails.of_eq (any_whole cc0_scratch4 c).symm
  have e5 : (bufAny (F := F) xcB c) ⊢ iprop(∃ f : Buf (Elt F) ((c : Thread nD τ).loc cc0_scratch5), ((c : Thread nD τ).loc cc0_scratch5) ↦{fullShare} f) :=
    Entails.of_eq (any_whole cc0_scratch5 c).symm
  have e6 : (bufAny (F := F) tpF c) ⊢ iprop(∃ f : Buf (Elt F) ((c : Thread nD τ).loc cc0_scratch6), ((c : Thread nD τ).loc cc0_scratch6) ↦{fullShare} f) :=
    Entails.of_eq (any_whole cc0_scratch6 c).symm
  have e7 : (bufAny (F := F) tpB c) ⊢ iprop(∃ f : Buf (Elt F) ((c : Thread nD τ).loc cc0_scratch7), ((c : Thread nD τ).loc cc0_scratch7) ↦{fullShare} f) :=
    Entails.of_eq (any_whole cc0_scratch7 c).symm
  unfold idle work out Φ₁ arrays₁ F0 B0 BT inp
  rw [scopedRest0_eq, ownSems0_eq, unscopedSems0_eq, ow_end]
  iintro ⟨#HE, ⟨HO, ⟨Hbar, -⟩, ⟨HatF, -⟩, ⟨HatB, -⟩, H01, H11, H00, H10⟩, ⟨⟨Hxl, Hxr, Hwl, Hwr, HL0, HL1, HL2, HL3⟩, H2, H3, H4, H5, H6, H7⟩, Ho, HS0, HS1⟩
  imod (close_all m K c) $$ [Hbar HatF HatB] with ⟨Hz, HZ⟩
  · isplitr; · iexact HE
    isplitl [Hbar]; · iexact Hbar
    isplitl [HatF] <;> iassumption
  unfold zeros
  icases HZ with ⟨Z0, Z1, Z2, Z3, Z4, Z5, Z6, Z7⟩
  imodintro
  isplitl [HO]; · iexact HO
  isplitl [Hz Hxl Hxr Hwl Hwr Ho]
  · isplitl [Hz]; · iexact Hz
    isplitl [Hxl Hxr]
    · iapply (pointsTo_share (PosShare.mem_left_op_right fullShare)).2
      isplitl [Hxl]; · iexact Hxl
      iexact Hxr
    isplitl [Hwl Hwr]
    · iapply (pointsTo_share (PosShare.mem_left_op_right fullShare)).2
      isplitl [Hwl]; · iexact Hwl
      iexact Hwr
    iapply (joinO m c) $$ Ho
  isplitl [Z0 Z1 Z2 Z3 Z4 Z5 Z6 Z7 HL0 HL1 HL2 HL3 HS0 HS1]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [HL0]; · iexact HL0
    isplitl [HL1]; · iexact HL1
    isplitl [HL2]; · iexact HL2
    isplitl [HL3]; · iexact HL3
    isplitl [HS0] <;> iassumption
  isplitl [H01 H00]
  · iapply (joinF c)
    isplitl [H01]; · iexact H01
    iapply (slotIs_any cmF c (par 24) X) $$ H00
  isplitl [H11 H10]
  · iapply (joinB c)
    isplitl [H11]; · iexact H11
    iapply (slotIs_any cmB c (par 24) Y) $$ H10
  isplitl [H2]; · iapply e2; iapply (bufIs_any wtF c _) $$ H2
  isplitl [H3]; · iapply e3; iapply (bufIs_any wtB c _) $$ H3
  isplitl [H4]; · iapply e4 $$ H4
  isplitl [H5]; · iapply e5 $$ H5
  isplitl [H6]; · iapply e6 $$ H6
  iapply e7 $$ H7

/-! ## The body obligation -/

theorem sound_body (c : Dev nD) (Kt : PUnit → sProp 𝕄) :
    iprop(owesE c (ow c 0) ∗ Φ₀ m c ∗ (owesE c 0 -∗ Φ₁ m c -∗ Kt ⟨⟩)) ⊢ runs c (body (F := F)) Kt := by
  refine .trans ?_ (wp_fupd frame (wpE (defs₀ (F := F)) 𝒱₀ (c : Thread nD τ) none) Set.univ (body (F := F)) Kt)
  iintro ⟨HO, HΦ, Hk⟩
  ihave H := (enter m c) $$ [HO HΦ]
  · isplitl [HO] <;> iassumption
  icases H with ⟨%K, %X, %Y, #HE, H⟩
  unfold entry
  icases H with ⟨Hid, Hin, H2, H3, H4, H5, H6, H7, Hout⟩
  iapply (body_spec m K c X Y)
  isplitr; · iexact HE
  isplitl [Hid]; · iexact Hid
  isplitl [Hin]; · iexact Hin
  isplitl [H2]; · iexact H2
  isplitl [H3]; · iexact H3
  isplitl [H4]; · iexact H4
  isplitl [H5]; · iexact H5
  isplitl [H6]; · iexact H6
  isplitl [H7]; · iexact H7
  isplitl [Hout]; · iexact Hout
  iintro Hid Hw Hout
  imod (leave m K c _ _) $$ [Hid Hw Hout] with ⟨HO, HΦ⟩
  · isplitr; · iexact HE
    isplitl [Hid]; · iexact Hid
    isplitl [Hw] <;> iassumption
  imodintro
  iapply Hk $$ HO HΦ

set_option maxRecDepth 100000 in
theorem body_obligation (c : Dev nD) : BodyObligation (dats (F := F) m 0 c) (defs₀ (F := F)) 𝒱₀ 0 Set.univ := fun t => by
  rw [fin_N0 t]
  have h0 (Φ : Fin cfg0.W → sProp 𝕄) : bigSep Finset.univ Φ = iprop(emp) := by
    rw [show (Finset.univ : Finset (Fin cfg0.W)) = ∅ from rfl, BI.bigSep_empty]; rfl
  rw [h0, h0]
  show iprop(Φ₀ m c ∗ (dats m 0 c).owesAt 0 t0_0.castSucc ∗ emp) ⊢ wp frame (wpE (defs₀ (F := F)) 𝒱₀ (c : Thread nD τ) none) Set.univ
    (cc0_body mX (Memref.isWhole_whole _) mW (Memref.isWhole_whole _) mO (Memref.isWhole_whole _)
    cmF (Memref.isWhole_whole _) cmB (Memref.isWhole_whole _) wtF (Memref.isWhole_whole _) wtB (Memref.isWhole_whole _)
    xcF (Memref.isWhole_whole _) xcB (Memref.isWhole_whole _) tpF (Memref.isWhole_whole _) tpB (Memref.isWhole_whole _)
    cc0_scratch8 cc0_scratch9 cc0_scratch10 cc0_scratch11 cc0_scratch12 cc0_scratch13)
    (fun _ => iprop(Φ₁ m c ∗ (dats m 0 c).owesAt 0 t0_0.succ ∗ emp))
  rw [cc0_body_eq]
  unfold Dat.owesAt Pipeline.owesWithin
  rw [show (dats m 0 c).owed t0_0.castSucc = ow c 0 from rfl, show (dats m 0 c).owed t0_0.succ = 0 from rfl]
  refine .trans ?_ (sound_body m c _)
  iintro ⟨HΦ, ⟨%W, -, HO⟩, -⟩
  isplitl [HO]
  · unfold owesE; iexists W; iexact HO
  isplitl [HΦ]; · iexact HΦ
  iintro HO HΦ
  isplitl [HΦ]; · iexact HΦ
  isplitl [HO]
  · unfold owesE
    icases HO with ⟨%W', HO⟩
    iexists W'
    isplitr; · ipureintro; exact fun _ _ => Or.inl trivial
    iexact HO
  iempintro

/-! ## The launch's side conditions -/

variable (ρ : Dev nD → PrngReg)

theorem start_intro (c : Dev nD) :
    iprop(Pipeline.unscopedRestP Pipeline.Prefetch.none cfg0.spec c (fun b => m ((c : Thread nD τ).loc b)) ∗ levAts L lv
        ∗ Pipeline.launchCred (fun d => ow d 0) c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (all_creds (F := F) c) $$ Hcr
  imodintro
  unfold start arrays₀
  isplitl
  · isplitl [HG]; · iexact HG
    isplitl [Hlev]; · iexact Hlev
    isplitl [Hc]; · iexact Hc
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem phi1_exit (c : Dev nD) :
    (dats m 0 c).Φ (Fin.last cfg0.N) ⊢ iprop((unscopedSems0 c ∗ arrays₁ m c) ∗ Pipeline.ownSems0 osem c ∗ Pipeline.scopedRest cfg0.spec c) :=
  Entails.of_eq (show (dats m 0 c).Φ (Fin.last cfg0.N) = Φ₁ m c from rfl)

theorem waits (c : Dev nD) : (levAts L lv : sProp 𝕄) ⊢ Pipeline.cellsWaits cfgs (dats m) 0 0 c :=
  Pipeline.cellsWaits_intro cfgs (dats m) 0 0 c fun w => w.elim0

/-- What is known of device `c` at the end. -/
def Post (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
  ∧ done m (s.mem ((c : Thread nD τ).loc main_v1))

theorem read_end (c : Dev nD) (s' : Phys nD τ sig (Elt F)) :
    iprop((unscopedSems0 c ∗ arrays₁ m c) ∗ emp ∗ SI s')
      ⊢ (|={Set.univ}=> iprop(⌜(∀ sm : SemLoc sig, sm.isScoped .tc = false → s'.mem.sem ((c.tc : Thread nD τ), sm) = 0) ∧ Post m c s'.mem⌝ ∗ SI s') : sProp 𝕄) := by
  unfold arrays₁
  iintro ⟨⟨Hu, Hx, Hw, %g, %hg, Ho⟩, -, HSI⟩
  icombine HSI Hx gives %h1
  icombine HSI Hw gives %h2
  icombine HSI Ho gives %h3
  imod (Pipeline.unscopedSems0_read (X := unscopedSems0 c) (c := c) fupd_intro s') $$ [Hu HSI] with ⟨%hs, HSI⟩
  · isplitl [Hu] <;> iassumption
  imodintro
  isplitr
  · ipureintro
    refine ⟨hs, ⟨Buf.eq_of_forall_mem_univ h1, Buf.eq_of_forall_mem_univ h2⟩, ?_⟩
    rw [Buf.eq_of_forall_mem_univ h3]; exact hg
  iexact HSI

/-! ## The run -/

set_option maxRecDepth 100000 in
/-- From any memory with zero counters, at any float values, every weakly fair execution of the four devices
    terminates, and at its end each device's arguments are what they were, its result is `done`, and every
    semaphore counter is at zero. -/
theorem run_main : θ_run defs (onTc (τ := τ) (main (F := F))) (s₀ m ρ) (fun r => (∀ c, Post m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun c => ow c 0) (howed₀ := fun _ => rfl) (howedN := fun _ => rfl)
    (L := L) (lv := lv) (hL := L_of_ne) (hwaits := waits m)
    (G := G m) (G' := G' m) (u₀ := u₀)
    (hu₀ := by
      iintro Hu
      ihave H := (own_u₀ (F := F)) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := fun c => iprop(unscopedSems0 c ∗ arrays₁ m c)) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ Post m c s)
    (hY := read_end m)
    (hQ := fun _ h hs => ⟨fun c => (h c).2.2.2, sem_eq_zero hs fun c => (h c).2.2.1⟩)

end Cert.RingProof

end
-- ==== Proof.Value.lean ====
/-
What the ring leaves in each block of the result, over the extended reals: the sum over the four devices of
their products is one row of `x` times one column of `w`, the 4096 terms of it grouped by device.
-/
module

public import proofs.«01_k».proof.Proof.Start
public import proofs.«01_k».proof.Proof.Gen.ReferenceIdeal.Read
public import Idealize.ShloMosaic.Lib.MatmulPlain
public import Idealize.ShloMosaic.Lib.Layout
public import Idealize.ShloMosaic.Lib.Pipeline.ValueKit.Acc
public import Idealize.ShloMosaic.Lib.Pipeline.ValueKit.Geometry

@[expose] public section

noncomputable section

namespace Cert.RingProof

open Cert.KernelIdeal Cert.KernelIdeal.Gen
open Idealize.ShloMosaic
open Idealize.ShloMosaic.TcCoe
open Idealize.ShloMosaic.ValueIdx

/-! ## The ring's order of adding -/

section Order

variable {F : FTy → Type} [FloatOps F] (m : (ℓ : Loc nD τ sig) → Buf (Elt F) ℓ)

/-- Device `d`'s product for row block `t`, column block `n`. -/
def prodAt (t : Dev nD) (n : Fin 8) (d : Dev nD) : Vec F S1024x1024 .f32 := dotT (xCh m d t) (wCh m d n)

theorem step (c : Dev nD) : prv (fwd c 3) = fwd c 2 ∧ prv (fwd c 2) = fwd c 1 ∧ prv (fwd c 1) = c ∧ prv c = fwd c 3 := by
  have h : c.val < 4 := c.isLt
  refine ⟨?_, ?_, ?_, ?_⟩ <;> (apply Fin.ext; simp only [fwd, back]; try omega)

theorem step' (c : Dev nD) : nxt (back c 3) = back c 2 ∧ nxt (back c 2) = back c 1 ∧ nxt (back c 1) = c ∧ nxt c = back c 3 := by
  have h : c.val < 4 := c.isLt
  refine ⟨?_, ?_, ?_, ?_⟩ <;> (apply Fin.ext; simp only [fwd, back]; omega)

theorem srcF_prods (p : ℕ) (t : Dev nD) :
    srcF m p 3 (prv t) = addT (addT (addT (prodAt m t (nF p) t) (prodAt m t (nF p) (fwd t 1))) (prodAt m t (nF p) (fwd t 2)))
      (prodAt m t (nF p) (fwd t 3)) := by
  obtain ⟨h3, h2, h1, h0⟩ := step t
  rw [h0]
  simp only [srcF, prodAt, Nat.reduceLT, Nat.reduceAdd, if_true, h3, h2, h1, back_fwd]

theorem srcB_prods (p : ℕ) (t : Dev nD) :
    srcB m p 3 (nxt t) = addT (addT (addT (prodAt m t (nB p) t) (prodAt m t (nB p) (back t 1))) (prodAt m t (nB p) (back t 2)))
      (prodAt m t (nB p) (back t 3)) := by
  obtain ⟨h3, h2, h1, h0⟩ := step' t
  rw [h0]
  simp only [srcB, prodAt, Nat.reduceLT, Nat.reduceAdd, if_true, h3, h2, h1, fwd_back]

end Order

/-! ## Over the extended reals -/

theorem sum_fwd (f : Dev nD → EReal) (t : Dev nD) : f t + f (fwd t 1) + f (fwd t 2) + f (fwd t 3) = ∑ d : Fin 4, f d := by
  rw [Fin.sum_univ_four]
  fin_cases t
  · show f 0 + f 1 + f 2 + f 3 = _; rfl
  · show f 1 + f 2 + f 3 + f 0 = _; ac_rfl
  · show f 2 + f 3 + f 0 + f 1 = _; ac_rfl
  · show f 3 + f 0 + f 1 + f 2 = _; ac_rfl

theorem sum_back (f : Dev nD → EReal) (t : Dev nD) : f t + f (back t 1) + f (back t 2) + f (back t 3) = ∑ d : Fin 4, f d := by
  rw [Fin.sum_univ_four]
  fin_cases t
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl

theorem dims_plain : dot_S1024x1024_S1024x1024_S1024x1024_1_0_0_1_n_n = DotDims.plain 1024 1024 1024 := rfl

/-- A product read at an entry. -/
theorem dotT_apply (a b : Vec Ideal S1024x1024 .f32) (r c : Fin 1024) :
    dotT a b (ix2 r c) = ∑ k : Fin 1024, a (ix2 r k) * b (ix2 k c) := by
  show FloatOps.matmul dot_S1024x1024_S1024x1024_S1024x1024_1_0_0_1_n_n none a b (constant (F := Ideal) S1024x1024 .f32 0x00000000#32) (ix2 r c) = _
  rw [dims_plain, Ideal.matmul_plain_apply, constant_apply, Ideal.ofBits_zero_f32, zero_add]

variable (m : (ℓ : Loc nD τ sig) → Buf (Elt Ideal) ℓ)

/-- A block of the result is the sum of the devices' products for it, whichever way it went round. -/
theorem res_sum (t : Dev nD) (n : Fin 8) (i : S1024x1024.Idx) :
    (res m (t, n) i : EReal) = ∑ d : Fin 4, (prodAt m t n d i : EReal) := by
  have hn := n.isLt
  by_cases h : n.val < 4
  · have e : nF n.val = n := Fin.ext (Nat.mod_eq_of_lt h)
    have h1 : res m (t, n) = srcF m n.val 3 (prv t) := if_pos h
    rw [h1, srcF_prods, e]
    exact sum_fwd (fun d => prodAt m t n d i) t
  · have e : nB (n.val - 4) = n := Fin.ext (by simp only [nB]; omega)
    have h1 : res m (t, n) = srcB m (n.val - 4) 3 (nxt t) := if_neg h
    rw [h1, srcB_prods, e]
    exact sum_back (fun d => prodAt m t n d i) t

/-! ## Against the whole arrays -/

abbrev xIdx (r : Fin 4096) (k : Fin 4096) : (⟨2, ![4096, 4096]⟩ : Shape).Idx := ix2 r k
abbrev wIdx (k : Fin 4096) (c : Fin 8192) : (⟨2, ![4096, 8192]⟩ : Shape).Idx := ix2 k c

/-- Entry `k` of block `b`, counted over the whole. -/
abbrev at4 (b : Fin 4) (k : Fin 1024) : Fin 4096 := ⟨1024 * b.val + k.val, by omega⟩
abbrev at8 (b : Fin 8) (k : Fin 1024) : Fin 8192 := ⟨1024 * b.val + k.val, by omega⟩

variable (X : (⟨2, ![4096, 4096]⟩ : Shape).Idx → EReal) (W : (⟨2, ![4096, 8192]⟩ : Shape).Idx → EReal)

/-- An index of a window of one whole array, counted over the array. -/
theorem win_val (b : Ref sig .tc) (off size : Fin b.ty.shape.rank → ℕ) (inb) (j : (Rect.unit off size inb).shape.Idx) (a : Fin b.ty.shape.rank) :
    (((View.whole b).slice (Rect.unit off size inb)).emb j a).val = off a + (j a).val :=
  ValueKit.view_emb_slice_whole_unit_val b off size inb j a

theorem xCh_apply (c ch : Dev nD) (h : m ((c : Thread nD τ).loc main_arg0) = Layout.block ⟨2, ![4096, 1024]⟩ ⟨2, ![4096, 4096]⟩ 1 4 c X)
    (r k : Fin 1024) : xCh m c ch (ix2 r k) = X (xIdx (at4 ch r) (at4 c k)) := by
  unfold xCh
  rw [h]
  show X _ = X _
  congr 1
  funext a
  apply Fin.ext
  match a with
  | ⟨0, _⟩ => exact win_val main_arg0 ![1024 * ch.val, 0] S1024x1024.size (x_inb ch) (ix2 r k) 0
  | ⟨1, _⟩ =>
    refine (congrArg (c.val * 1024 + ·) (win_val main_arg0 ![1024 * ch.val, 0] S1024x1024.size (x_inb ch) (ix2 r k) 1)).trans ?_
    show c.val * 1024 + (0 + k.val) = 1024 * c.val + k.val; omega

theorem wCh_apply (c : Dev nD) (n : Fin 8) (h : m ((c : Thread nD τ).loc main_arg1) = Layout.block ⟨2, ![1024, 8192]⟩ ⟨2, ![4096, 8192]⟩ 0 4 c W)
    (k l : Fin 1024) : wCh m c n (ix2 k l) = W (wIdx (at4 c k) (at8 n l)) := by
  unfold wCh
  rw [h]
  show W _ = W _
  congr 1
  funext a
  apply Fin.ext
  match a with
  | ⟨0, _⟩ =>
    refine (congrArg (c.val * 1024 + ·) (win_val main_arg1 ![0, 1024 * n.val] S1024x1024.size (w_inb n) (ix2 k l) 0)).trans ?_
    show c.val * 1024 + (0 + k.val) = 1024 * c.val + k.val; omega
  | ⟨1, _⟩ => exact win_val main_arg1 ![0, 1024 * n.val] S1024x1024.size (w_inb n) (ix2 k l) 1

/-- A sum over 4096, by device. -/
theorem sum_split (f : Fin 4096 → EReal) : ∑ d : Fin 4, ∑ k : Fin 1024, f (at4 d k) = ∑ k : Fin 4096, f k := by
  have h := Fin.sum_univ_univ_mul_add 4 1024 (fun l => if h : l < 4096 then f ⟨l, h⟩ else 0)
  rw [show (∑ k : Fin 4096, f k) = ∑ l : Fin (4 * 1024), (if h : l.val < 4096 then f ⟨l.val, h⟩ else 0) from
    Finset.sum_congr rfl fun k _ => by rw [dif_pos k.isLt], ← h]
  refine Finset.sum_congr rfl fun d _ => Finset.sum_congr rfl fun k _ => ?_
  have hd := d.isLt
  have hk := k.isLt
  rw [dif_pos (show d.val * 1024 + k.val < 4096 by omega)]
  exact congrArg f (Fin.ext (by show 1024 * d.val + k.val = d.val * 1024 + k.val; omega))

section Whole

variable (hm : ∀ c : Dev nD, m ((c.tc : Thread nD τ).loc main_arg0) = Layout.block ⟨2, ![4096, 1024]⟩ ⟨2, ![4096, 4096]⟩ 1 4 c X
  ∧ m ((c.tc : Thread nD τ).loc main_arg1) = Layout.block ⟨2, ![1024, 8192]⟩ ⟨2, ![4096, 8192]⟩ 0 4 c W)

include hm in
/-- An entry of a block of the result is the entry of the whole product. -/
theorem res_apply (t : Dev nD) (n : Fin 8) (r l : Fin 1024) :
    (res m (t, n) (ix2 r l) : EReal) = Cert.ReferenceIdeal.Read.val_main_v0 (F := Ideal) X W (wIdx (at4 t r) (at8 n l)) := by
  rw [res_sum, Cert.ReferenceIdeal.Read.val_main_v0_apply]
  refine Eq.trans ?_ (sum_split fun k => X (xIdx (at4 t r) k) * W (wIdx k (at8 n l)))|>.trans ?_
  · refine Finset.sum_congr rfl fun d _ => ?_
    show (dotT (xCh m d t) (wCh m d n) (ix2 r l) : EReal) = _
    rw [dotT_apply]
    exact Finset.sum_congr rfl fun k _ => congr (congrArg HMul.hMul (xCh_apply m X d t (hm d).1 r k)) (wCh_apply m W d n (hm d).2 k l)
  · refine Finset.sum_congr rfl fun k _ => congr (congrArg HMul.hMul (congrArg X ?_)) (congrArg W ?_)
    · funext a; match a with
      | ⟨0, _⟩ => rfl
      | ⟨1, _⟩ => rfl
    · funext a; match a with
      | ⟨0, _⟩ => rfl
      | ⟨1, _⟩ => rfl

include hm in
/-- So a result all of whose blocks are final is the whole product. -/
theorem done_eq (g : S4096x8192.Idx → EReal) (h : done m g) : g = Cert.ReferenceIdeal.Read.val_main_v0 (F := Ideal) X W := by
  funext i
  have h0 : (i 0).val < 4096 := (i 0).isLt
  have h1 : (i 1).val < 8192 := (i 1).isLt
  let r : Fin 1024 := ⟨(i 0).val % 1024, Nat.mod_lt _ (by decide)⟩
  let l : Fin 1024 := ⟨(i 1).val % 1024, Nat.mod_lt _ (by decide)⟩
  have hr := congrFun (h (tileOf i)) (ix2 r l)
  have ha := res_apply m X W hm (tileOf i).1 (tileOf i).2 r l
  have hi : wIdx (at4 (tileOf i).1 r) (at8 (tileOf i).2 l) = i := by
    funext a
    apply Fin.ext
    match a with
    | ⟨0, _⟩ => show 1024 * ((i 0).val / 1024) + (i 0).val % 1024 = (i 0).val; omega
    | ⟨1, _⟩ => show 1024 * ((i 1).val / 1024) + (i 1).val % 1024 = (i 1).val; omega
  have he : (oT (tileOf i)).view.emb (ix2 r l) = i := by
    refine Eq.trans ?_ hi
    funext a
    apply Fin.ext
    match a with
    | ⟨0, _⟩ => exact win_val main_v1 ![1024 * (tileOf i).1.val, 1024 * (tileOf i).2.val] S1024x1024.size (o_inb _ _) (ix2 r l) 0
    | ⟨1, _⟩ => exact win_val main_v1 ![1024 * (tileOf i).1.val, 1024 * (tileOf i).2.val] S1024x1024.size (o_inb _ _) (ix2 r l) 1
  rw [hi] at ha
  refine Eq.trans ?_ (hr.trans ha)
  show g i = g ((oT (tileOf i)).view.emb (ix2 r l))
  rw [he]

end Whole

end Cert.RingProof

end
-- ==== Proof.lean ====
/-
The claims, from the kernel's run (Proof/Start.lean, written once over any float values), the reference's
generated run, and the reading of the result's blocks over the extended reals (Proof/Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Start
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel ends on bits, with its arguments unchanged and every counter at zero. -/
theorem frame_kernel : Cert.quiescent_Kernel := fun m ρ _ =>
  (θ_run Cert.KernelIdeal.defs _ _).mono (fun _ h => ⟨fun c => (h.1 c).1, h.2⟩) (Cert.RingProof.run_main (F := Bits) m ρ)

/-- So it does over the extended reals. -/
theorem frame_kernelIdeal : Cert.quiescent_KernelIdeal := fun m ρ _ =>
  (θ_run Cert.KernelIdeal.defs _ _).mono (fun _ h => ⟨fun c => (h.1 c).1, h.2⟩) (Cert.RingProof.run_main (F := Ideal) m ρ)

/-- The reference ends likewise; it has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the whole product in its result. -/
theorem value : Cert.algebraic_KernelIdeal_ReferenceIdeal := fun m ρ m' ρ' _ hm =>
  ⟨Cert.ReferenceIdeal.Read.val_main_v0 (F := Ideal) _ _,
    (θ_run Cert.KernelIdeal.defs _ _).mono
      (fun _ h c => ⟨Cert.RingProof.done_eq m _ _ hm _ (h.1 c).2, (h.1 c).1⟩)
      (Cert.RingProof.run_main (F := Ideal) m ρ),
    (θ_run Cert.ReferenceIdeal.defs _ _).mono
      (fun _ h => ⟨(h 0).1.trans (Cert.ReferenceIdeal.Read.val_main_v0_eq _ _), (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
